-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v140) = v1 c
          ∧ r.2.mem ((c.tc : Thread Cert.ReferenceIdeal.nD Cert.ReferenceIdeal.τ).loc Cert.ReferenceIdeal.main_v145) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x768 : Shape := ⟨2, ![16384, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S4x256x64 : Shape := ⟨3, ![4, 256, 64]⟩
abbrev S256x512 : Shape := ⟨2, ![256, 512]⟩
abbrev S512x768 : Shape := ⟨2, ![512, 768]⟩
abbrev S768 : Shape := ⟨1, ![768]⟩
abbrev S1x512 : Shape := ⟨2, ![1, 512]⟩
abbrev S1x256 : Shape := ⟨2, ![1, 256]⟩
abbrev S1x768 : Shape := ⟨2, ![1, 768]⟩
abbrev S16384 : Shape := ⟨1, ![16384]⟩
abbrev S1x1 : Shape := ⟨2, ![1, 1]⟩
abbrev S1024x768 : Shape := ⟨2, ![1024, 768]⟩
abbrev S1024 : Shape := ⟨1, ![1024]⟩
abbrev S1024x512 : Shape := ⟨2, ![1024, 512]⟩
abbrev S1024x256 : Shape := ⟨2, ![1024, 256]⟩
abbrev S1024x64 : Shape := ⟨2, ![1024, 64]⟩
abbrev S1x256x64 : Shape := ⟨3, ![1, 256, 64]⟩
abbrev S256x64 : Shape := ⟨2, ![256, 64]⟩
abbrev S1024x1 : Shape := ⟨2, ![1024, 1]⟩
abbrev S1x1024x64 : Shape := ⟨3, ![1, 1024, 64]⟩
abbrev S1 : Shape := ⟨1, ![1]⟩
abbrev S1x1x1 : Shape := ⟨3, ![1, 1, 1]⟩
abbrev S_ : Shape := ⟨0, ![]⟩
abbrev S16384x1 : Shape := ⟨2, ![16384, 1]⟩
abbrev S16384x4 : Shape := ⟨2, ![16384, 4]⟩

abbrev nBuf : Space → Nat
  | .hbm => 28
  | .vmem => 21
  | .smem => 1
  | _ => 0

abbrev bufTy : (tb : Table) → Fin (tcTables nBuf tb) → BufTy
  | .hbm, ⟨0, _⟩ => ⟨S16384x768, .f32⟩
  | .hbm, ⟨1, _⟩ => ⟨S768x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S4x256x64, .f32⟩
  | .hbm, ⟨6, _⟩ => ⟨S256x512, .f32⟩
  | .hbm, ⟨7, _⟩ => ⟨S512, .f32⟩
  | .hbm, ⟨8, _⟩ => ⟨S512x768, .f32⟩
  | .hbm, ⟨9, _⟩ => ⟨S768, .f32⟩
  | .hbm, ⟨10, _⟩ => ⟨S1x512, .f32⟩
  | .hbm, ⟨11, _⟩ => ⟨S1x256, .f32⟩
  | .hbm, ⟨12, _⟩ => ⟨S1x512, .f32⟩
  | .hbm, ⟨13, _⟩ => ⟨S1x768, .f32⟩
  | .hbm, ⟨14, _⟩ => ⟨S16384x768, .f32⟩
  | .hbm, ⟨15, _⟩ => ⟨S16384, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S1x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16384x1, .i32⟩
  | .hbm, ⟨24, _⟩ => ⟨S16384x1, .i32⟩
  | .hbm, ⟨25, _⟩ => ⟨S16384x1, .i32⟩
  | .hbm, ⟨26, _⟩ => ⟨S16384x1, .i32⟩
  | .hbm, ⟨27, _⟩ => ⟨S16384x4, .i32⟩
  | .local _ .vmem, ⟨0, _⟩ => ⟨S1024x768, .f32⟩
  | .local _ .vmem, ⟨1, _⟩ => ⟨S1024x768, .f32⟩
  | .local _ .vmem, ⟨2, _⟩ => ⟨S768x512, .f32⟩
  | .local _ .vmem, ⟨3, _⟩ => ⟨S1x512, .f32⟩
  | .local _ .vmem, ⟨4, _⟩ => ⟨S512x256, .f32⟩
  | .local _ .vmem, ⟨5, _⟩ => ⟨S1x256, .f32⟩
  | .local _ .vmem, ⟨6, _⟩ => ⟨S4x256x64, .f32⟩
  | .local _ .vmem, ⟨7, _⟩ => ⟨S256x512, .f32⟩
  | .local _ .vmem, ⟨8, _⟩ => ⟨S1x512, .f32⟩
  | .local _ .vmem, ⟨9, _⟩ => ⟨S512x768, .f32⟩
  | .local _ .vmem, ⟨10, _⟩ => ⟨S1x768, .f32⟩
  | .local _ .vmem, ⟨11, _⟩ => ⟨S1024x768, .f32⟩
  | .local _ .vmem, ⟨12, _⟩ => ⟨S1024x768, .f32⟩
  | .local _ .vmem, ⟨13, _⟩ => ⟨S1024, .i32⟩
  | .local _ .vmem, ⟨14, _⟩ => ⟨S1024, .i32⟩
  | .local _ .vmem, ⟨15, _⟩ => ⟨S1024, .i32⟩
  | .local _ .vmem, ⟨16, _⟩ => ⟨S1024, .i32⟩
  | .local _ .vmem, ⟨17, _⟩ => ⟨S1024, .i32⟩
  | .local _ .vmem, ⟨18, _⟩ => ⟨S1024, .i32⟩
  | .local _ .vmem, ⟨19, _⟩ => ⟨S1024, .i32⟩
  | .local _ .vmem, ⟨20, _⟩ => ⟨S1024, .i32⟩
  | .local _ .smem, ⟨0, _⟩ => ⟨S1x1, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 1 → Nat :=
  let arg0 : BitVec 32 := BitVec.ofNat 32 (i 0).val
  let c0_i32 : BitVec 32 := 0#32
  ![arg0.toNat]

def cc0_transform_12 (i : grid0.Coords) : Fin 1 → Nat :=
  let arg0 : BitVec 32 := BitVec.ofNat 32 (i 0).val
  let c0_i32 : BitVec 32 := 0#32
  ![arg0.toNat]

def cc0_transform_13 (i : grid0.Coords) : Fin 1 → Nat :=
  let arg0 : BitVec 32 := BitVec.ofNat 32 (i 0).val
  let c0_i32 : BitVec 32 := 0#32
  ![arg0.toNat]

def cc0_transform_14 (i : grid0.Coords) : Fin 1 → Nat :=
  let arg0 : BitVec 32 := BitVec.ofNat 32 (i 0).val
  let c0_i32 : BitVec 32 := 0#32
  ![arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .smem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S16384x768 : Shape := ⟨2, ![16384, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S4x256x64 : Shape := ⟨3, ![4, 256, 64]⟩
abbrev S256x512 : Shape := ⟨2, ![256, 512]⟩
abbrev S512x768 : Shape := ⟨2, ![512, 768]⟩
abbrev S768 : Shape := ⟨1, ![768]⟩
abbrev S16384x512 : Shape := ⟨2, ![16384, 512]⟩
abbrev S1x512 : Shape := ⟨2, ![1, 512]⟩
abbrev S_ : Shape := ⟨0, ![]⟩
abbrev S16384x256 : Shape := ⟨2, ![16384, 256]⟩
abbrev S1x256 : Shape := ⟨2, ![1, 256]⟩
abbrev S16384x64 : Shape := ⟨2, ![16384, 64]⟩
abbrev S1x256x64 : Shape := ⟨3, ![1, 256, 64]⟩
abbrev S256x64 : Shape := ⟨2, ![256, 64]⟩
abbrev S16384 : Shape := ⟨1, ![16384]⟩
abbrev S16384x1 : Shape := ⟨2, ![16384, 1]⟩
abbrev S64x256 : Shape := ⟨2, ![64, 256]⟩
abbrev S1 : Shape := ⟨1, ![1]⟩
abbrev S1x1 : Shape := ⟨2, ![1, 1]⟩
abbrev S4 : Shape := ⟨1, ![4]⟩
abbrev S16384x4 : Shape := ⟨2, ![16384, 4]⟩
abbrev S1x768 : Shape := ⟨2, ![1, 768]⟩

abbrev nBuf : Space → Nat
  | .hbm => 307
  | .vmem => 0
  | .smem => 0
  | _ => 0

abbrev hbmTy0_0 (i : Nat) : BufTy := match i % 128 with
  | 0 => ⟨S16384x768, .f32⟩
  | 1 => ⟨S768x512, .f32⟩
  | 2 => ⟨S512, .f32⟩
  | 3 => ⟨S512x256, .f32⟩
  | 4 => ⟨S256, .f32⟩
  | 5 => ⟨S4x256x64, .f32⟩
  | 6 => ⟨S256x512, .f32⟩
  | 7 => ⟨S512, .f32⟩
  | 8 => ⟨S512x768, .f32⟩
  | 9 => ⟨S768, .f32⟩
  | 10 => ⟨S16384x512, .f32⟩
  | 11 => ⟨S1x512, .f32⟩
  | 12 => ⟨S16384x512, .f32⟩
  | 13 => ⟨S16384x512, .f32⟩
  | 14 => ⟨S_, .f32⟩
  | 15 => ⟨S16384x512, .f32⟩
  | 16 => ⟨S16384x512, .f32⟩
  | 17 => ⟨S16384x256, .f32⟩
  | 18 => ⟨S1x256, .f32⟩
  | 19 => ⟨S16384x256, .f32⟩
  | 20 => ⟨S16384x256, .f32⟩
  | 21 => ⟨S16384x64, .f32⟩
  | 22 => ⟨S16384x64, .f32⟩
  | 23 => ⟨S16384x64, .f32⟩
  | 24 => ⟨S16384x64, .f32⟩
  | 25 => ⟨S1x256x64, .f32⟩
  | 26 => ⟨S256x64, .f32⟩
  | 27 => ⟨S16384x64, .f32⟩
  | 28 => ⟨S_, .f32⟩
  | 29 => ⟨S16384, .f32⟩
  | 30 => ⟨S16384x1, .f32⟩
  | 31 => ⟨S256x64, .f32⟩
  | 32 => ⟨S_, .f32⟩
  | 33 => ⟨S256, .f32⟩
  | 34 => ⟨S1x256, .f32⟩
  | 35 => ⟨S16384x256, .f32⟩
  | 36 => ⟨S16384x256, .f32⟩
  | 37 => ⟨S16384x256, .f32⟩
  | 38 => ⟨S64x256, .f32⟩
  | 39 => ⟨S16384x256, .f32⟩
  | 40 => ⟨S_, .f32⟩
  | 41 => ⟨S16384x256, .f32⟩
  | 42 => ⟨S16384x256, .f32⟩
  | 43 => ⟨S16384x256, .f32⟩
  | 44 => ⟨S16384x256, .i32⟩
  | 45 => ⟨S_, .f32⟩
  | 46 => ⟨S_, .i32⟩
  | 47 => ⟨S16384, .f32⟩
  | 48 => ⟨S16384, .i32⟩
  | 49 => ⟨S_, .i32⟩
  | 50 => ⟨S16384, .i32⟩
  | 51 => ⟨S16384, .i1⟩
  | 52 => ⟨S_, .i32⟩
  | 53 => ⟨S16384, .i32⟩
  | 54 => ⟨S16384, .i32⟩
  | 55 => ⟨S16384, .i32⟩
  | 56 => ⟨S16384x1, .i32⟩
  | 57 => ⟨S1, .i32⟩
  | 58 => ⟨S_, .i32⟩
  | 59 => ⟨S16384x1, .i32⟩
  | 60 => ⟨S16384x1, .i1⟩
  | 61 => ⟨S1x1, .i32⟩
  | 62 => ⟨S16384x1, .i32⟩
  | 63 => ⟨S16384x1, .i1⟩
  | 64 => ⟨S16384x1, .i1⟩
  | 65 => ⟨S_, .i1⟩
  | 66 => ⟨S16384, .i1⟩
  | 67 => ⟨S16384x64, .f32⟩
  | 68 => ⟨S16384x64, .i1⟩
  | 69 => ⟨S_, .f32⟩
  | 70 => ⟨S16384x64, .f32⟩
  | 71 => ⟨S16384x64, .f32⟩
  | 72 => ⟨S16384x64, .f32⟩
  | 73 => ⟨S16384x64, .f32⟩
  | 74 => ⟨S_, .f32⟩
  | 75 => ⟨S_, .f32⟩
  | 76 => ⟨S_, .f32⟩
  | 77 => ⟨S_, .f32⟩
  | 78 => ⟨S16384x64, .f32⟩
  | 79 => ⟨S16384x64, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S16384x64, .f32⟩
  | 88 => ⟨S16384x64, .f32⟩
  | 89 => ⟨S1x256x64, .f32⟩
  | 90 => ⟨S256x64, .f32⟩
  | 91 => ⟨S16384x64, .f32⟩
  | 92 => ⟨S_, .f32⟩
  | 93 => ⟨S16384, .f32⟩
  | 94 => ⟨S16384x1, .f32⟩
  | 95 => ⟨S256x64, .f32⟩
  | 96 => ⟨S_, .f32⟩
  | 97 => ⟨S256, .f32⟩
  | 98 => ⟨S1x256, .f32⟩
  | 99 => ⟨S16384x256, .f32⟩
  | 100 => ⟨S16384x256, .f32⟩
  | 101 => ⟨S16384x256, .f32⟩
  | 102 => ⟨S64x256, .f32⟩
  | 103 => ⟨S16384x256, .f32⟩
  | 104 => ⟨S_, .f32⟩
  | 105 => ⟨S16384x256, .f32⟩
  | 106 => ⟨S16384x256, .f32⟩
  | 107 => ⟨S16384x256, .f32⟩
  | 108 => ⟨S16384x256, .i32⟩
  | 109 => ⟨S_, .f32⟩
  | 110 => ⟨S_, .i32⟩
  | 111 => ⟨S16384, .f32⟩
  | 112 => ⟨S16384, .i32⟩
  | 113 => ⟨S_, .i32⟩
  | 114 => ⟨S16384, .i32⟩
  | 115 => ⟨S16384, .i1⟩
  | 116 => ⟨S_, .i32⟩
  | 117 => ⟨S16384, .i32⟩
  | 118 => ⟨S16384, .i32⟩
  | 119 => ⟨S16384, .i32⟩
  | 120 => ⟨S16384x1, .i32⟩
  | 121 => ⟨S1, .i32⟩
  | 122 => ⟨S_, .i32⟩
  | 123 => ⟨S16384x1, .i32⟩
  | 124 => ⟨S16384x1, .i1⟩
  | 125 => ⟨S1x1, .i32⟩
  | 126 => ⟨S16384x1, .i32⟩
  | 127 => ⟨S16384x1, .i1⟩
  | _ => ⟨S16384x768, .f32⟩

abbrev hbmTy0_1 (i : Nat) : BufTy := match i % 128 with
  | 0 => ⟨S16384x1, .i1⟩
  | 1 => ⟨S_, .i1⟩
  | 2 => ⟨S16384, .i1⟩
  | 3 => ⟨S16384x64, .f32⟩
  | 4 => ⟨S16384x64, .i1⟩
  | 5 => ⟨S_, .f32⟩
  | 6 => ⟨S16384x64, .f32⟩
  | 7 => ⟨S16384x64, .f32⟩
  | 8 => ⟨S16384x64, .f32⟩
  | 9 => ⟨S16384x64, .f32⟩
  | 10 => ⟨S_, .f32⟩
  | 11 => ⟨S_, .f32⟩
  | 12 => ⟨S_, .f32⟩
  | 13 => ⟨S_, .f32⟩
  | 14 => ⟨S16384x64, .f32⟩
  | 15 => ⟨S16384x64, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S16384x64, .f32⟩
  | 24 => ⟨S16384x64, .f32⟩
  | 25 => ⟨S1x256x64, .f32⟩
  | 26 => ⟨S256x64, .f32⟩
  | 27 => ⟨S16384x64, .f32⟩
  | 28 => ⟨S_, .f32⟩
  | 29 => ⟨S16384, .f32⟩
  | 30 => ⟨S16384x1, .f32⟩
  | 31 => ⟨S256x64, .f32⟩
  | 32 => ⟨S_, .f32⟩
  | 33 => ⟨S256, .f32⟩
  | 34 => ⟨S1x256, .f32⟩
  | 35 => ⟨S16384x256, .f32⟩
  | 36 => ⟨S16384x256, .f32⟩
  | 37 => ⟨S16384x256, .f32⟩
  | 38 => ⟨S64x256, .f32⟩
  | 39 => ⟨S16384x256, .f32⟩
  | 40 => ⟨S_, .f32⟩
  | 41 => ⟨S16384x256, .f32⟩
  | 42 => ⟨S16384x256, .f32⟩
  | 43 => ⟨S16384x256, .f32⟩
  | 44 => ⟨S16384x256, .i32⟩
  | 45 => ⟨S_, .f32⟩
  | 46 => ⟨S_, .i32⟩
  | 47 => ⟨S16384, .f32⟩
  | 48 => ⟨S16384, .i32⟩
  | 49 => ⟨S_, .i32⟩
  | 50 => ⟨S16384, .i32⟩
  | 51 => ⟨S16384, .i1⟩
  | 52 => ⟨S_, .i32⟩
  | 53 => ⟨S16384, .i32⟩
  | 54 => ⟨S16384, .i32⟩
  | 55 => ⟨S16384, .i32⟩
  | 56 => ⟨S16384x1, .i32⟩
  | 57 => ⟨S1, .i32⟩
  | 58 => ⟨S_, .i32⟩
  | 59 => ⟨S16384x1, .i32⟩
  | 60 => ⟨S16384x1, .i1⟩
  | 61 => ⟨S1x1, .i32⟩
  | 62 => ⟨S16384x1, .i32⟩
  | 63 => ⟨S16384x1, .i1⟩
  | 64 => ⟨S16384x1, .i1⟩
  | 65 => ⟨S_, .i1⟩
  | 66 => ⟨S16384, .i1⟩
  | 67 => ⟨S16384x64, .f32⟩
  | 68 => ⟨S16384x64, .i1⟩
  | 69 => ⟨S_, .f32⟩
  | 70 => ⟨S16384x64, .f32⟩
  | 71 => ⟨S16384x64, .f32⟩
  | 72 => ⟨S16384x64, .f32⟩
  | 73 => ⟨S16384x64, .f32⟩
  | 74 => ⟨S_, .f32⟩
  | 75 => ⟨S_, .f32⟩
  | 76 => ⟨S_, .f32⟩
  | 77 => ⟨S_, .f32⟩
  | 78 => ⟨S16384x64, .f32⟩
  | 79 => ⟨S16384x64, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S16384x64, .f32⟩
  | 88 => ⟨S16384x64, .f32⟩
  | 89 => ⟨S1x256x64, .f32⟩
  | 90 => ⟨S256x64, .f32⟩
  | 91 => ⟨S16384x64, .f32⟩
  | 92 => ⟨S_, .f32⟩
  | 93 => ⟨S16384, .f32⟩
  | 94 => ⟨S16384x1, .f32⟩
  | 95 => ⟨S256x64, .f32⟩
  | 96 => ⟨S_, .f32⟩
  | 97 => ⟨S256, .f32⟩
  | 98 => ⟨S1x256, .f32⟩
  | 99 => ⟨S16384x256, .f32⟩
  | 100 => ⟨S16384x256, .f32⟩
  | 101 => ⟨S16384x256, .f32⟩
  | 102 => ⟨S64x256, .f32⟩
  | 103 => ⟨S16384x256, .f32⟩
  | 104 => ⟨S_, .f32⟩
  | 105 => ⟨S16384x256, .f32⟩
  | 106 => ⟨S16384x256, .f32⟩
  | 107 => ⟨S16384x256, .f32⟩
  | 108 => ⟨S16384x256, .i32⟩
  | 109 => ⟨S_, .f32⟩
  | 110 => ⟨S_, .i32⟩
  | 111 => ⟨S16384, .f32⟩
  | 112 => ⟨S16384, .i32⟩
  | 113 => ⟨S_, .i32⟩
  | 114 => ⟨S16384, .i32⟩
  | 115 => ⟨S16384, .i1⟩
  | 116 => ⟨S_, .i32⟩
  | 117 => ⟨S16384, .i32⟩
  | 118 => ⟨S16384, .i32⟩
  | 119 => ⟨S16384, .i32⟩
  | 120 => ⟨S16384x1, .i32⟩
  | 121 => ⟨S1, .i32⟩
  | 122 => ⟨S_, .i32⟩
  | 123 => ⟨S16384x1, .i32⟩
  | 124 => ⟨S16384x1, .i1⟩
  | 125 => ⟨S1x1, .i32⟩
  | 126 => ⟨S16384x1, .i32⟩
  | 127 => ⟨S16384x1, .i1⟩
  | _ => ⟨S16384x768, .f32⟩

abbrev hbmTy0_2 (i : Nat) : BufTy := match i % 128 with
  | 0 => ⟨S16384x1, .i1⟩
  | 1 => ⟨S_, .i1⟩
  | 2 => ⟨S16384, .i1⟩
  | 3 => ⟨S16384x64, .f32⟩
  | 4 => ⟨S16384x64, .i1⟩
  | 5 => ⟨S_, .f32⟩
  | 6 => ⟨S16384x64, .f32⟩
  | 7 => ⟨S16384x64, .f32⟩
  | 8 => ⟨S16384x64, .f32⟩
  | 9 => ⟨S16384x64, .f32⟩
  | 10 => ⟨S_, .f32⟩
  | 11 => ⟨S_, .f32⟩
  | 12 => ⟨S_, .f32⟩
  | 13 => ⟨S_, .f32⟩
  | 14 => ⟨S16384x64, .f32⟩
  | 15 => ⟨S16384x64, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S16384x64, .f32⟩
  | 24 => ⟨S16384x64, .f32⟩
  | 25 => ⟨S16384x256, .f32⟩
  | 26 => ⟨S1, .f32⟩
  | 27 => ⟨S1, .f32⟩
  | 28 => ⟨S1, .f32⟩
  | 29 => ⟨S1, .f32⟩
  | 30 => ⟨S4, .f32⟩
  | 31 => ⟨S_, .f32⟩
  | 32 => ⟨S_, .f32⟩
  | 33 => ⟨S_, .f32⟩
  | 34 => ⟨S_, .f32⟩
  | 35 => ⟨S16384x1, .i32⟩
  | 36 => ⟨S16384x1, .i32⟩
  | 37 => ⟨S16384x1, .i32⟩
  | 38 => ⟨S16384x1, .i32⟩
  | 39 => ⟨S16384x4, .i32⟩
  | 40 => ⟨S16384x512, .f32⟩
  | 41 => ⟨S1x512, .f32⟩
  | 42 => ⟨S16384x512, .f32⟩
  | 43 => ⟨S16384x512, .f32⟩
  | 44 => ⟨S_, .f32⟩
  | 45 => ⟨S16384x512, .f32⟩
  | 46 => ⟨S16384x512, .f32⟩
  | 47 => ⟨S16384x768, .f32⟩
  | 48 => ⟨S1x768, .f32⟩
  | 49 => ⟨S16384x768, .f32⟩
  | 50 => ⟨S16384x768, .f32⟩
  | _ => ⟨S16384x768, .f32⟩

abbrev hbmTy (i : Nat) : BufTy := match i / 128 with
  | 0 => hbmTy0_0 i
  | 1 => hbmTy0_1 i
  | 2 => hbmTy0_2 i
  | _ => ⟨S16384x768, .f32⟩

abbrev bufTy : (tb : Table) → Fin (tcTables nBuf tb) → BufTy
  | .hbm, ⟨i, _⟩ => hbmTy i
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call1_v0 : Ref sig .tc := ⟨.hbm, 44, rfl⟩
abbrev main_call1_cst : Ref sig .tc := ⟨.hbm, 45, rfl⟩
abbrev main_call1_c : Ref sig .tc := ⟨.hbm, 46, rfl⟩
abbrev main_call1_v1_0 : Ref sig .tc := ⟨.hbm, 47, rfl⟩
abbrev main_v29 : Ref sig .tc := ⟨.hbm, 48, rfl⟩
abbrev main_call2_c : Ref sig .tc := ⟨.hbm, 49, rfl⟩
abbrev main_call2_v0 : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_c_1 : Ref sig .tc := ⟨.hbm, 57, rfl⟩
abbrev main_call2_c_2 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_3 : Ref sig .tc := ⟨.hbm, 65, rfl⟩
abbrev main_call2_v12 : Ref sig .tc := ⟨.hbm, 66, rfl⟩
abbrev main_call2_v13 : Ref sig .tc := ⟨.hbm, 67, rfl⟩
abbrev main_call2_v14 : Ref sig .tc := ⟨.hbm, 68, rfl⟩
abbrev main_call2_cst : Ref sig .tc := ⟨.hbm, 69, rfl⟩
abbrev main_call2_v15 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_cst_2 : Ref sig .tc := ⟨.hbm, 74, rfl⟩
abbrev main_v33 : Ref sig .tc := ⟨.hbm, 75, rfl⟩
abbrev main_cst_3 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_cst_4 : Ref sig .tc := ⟨.hbm, 80, rfl⟩
abbrev main_v37 : Ref sig .tc := ⟨.hbm, 81, rfl⟩
abbrev main_cst_5 : Ref sig .tc := ⟨.hbm, 82, rfl⟩
abbrev main_v38 : Ref sig .tc := ⟨.hbm, 83, rfl⟩
abbrev main_cst_6 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_cst_7 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_cst_8 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_9 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_call3_v0 : Ref sig .tc := ⟨.hbm, 108, rfl⟩
abbrev main_call3_cst : Ref sig .tc := ⟨.hbm, 109, rfl⟩
abbrev main_call3_c : Ref sig .tc := ⟨.hbm, 110, rfl⟩
abbrev main_call3_v1_0 : Ref sig .tc := ⟨.hbm, 111, rfl⟩
abbrev main_v59 : Ref sig .tc := ⟨.hbm, 112, rfl⟩
abbrev main_call4_c : Ref sig .tc := ⟨.hbm, 113, rfl⟩
abbrev main_call4_v0 : Ref sig .tc := ⟨.hbm, 114, rfl⟩
abbrev main_call4_v1 : Ref sig .tc := ⟨.hbm, 115, rfl⟩
abbrev main_call4_c_0 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_call4_v5 : Ref sig .tc := ⟨.hbm, 120, rfl⟩
abbrev main_call4_c_1 : Ref sig .tc := ⟨.hbm, 121, rfl⟩
abbrev main_call4_c_2 : Ref sig .tc := ⟨.hbm, 122, rfl⟩
abbrev main_call4_v6 : Ref sig .tc := ⟨.hbm, 123, rfl⟩
abbrev main_call4_v7 : Ref sig .tc := ⟨.hbm, 124, rfl⟩
abbrev main_call4_v8 : Ref sig .tc := ⟨.hbm, 125, rfl⟩
abbrev main_call4_v9 : Ref sig .tc := ⟨.hbm, 126, rfl⟩
abbrev main_call4_v10 : Ref sig .tc := ⟨.hbm, 127, rfl⟩
abbrev main_call4_v11 : Ref sig .tc := ⟨.hbm, 128, rfl⟩
abbrev main_call4_c_3 : Ref sig .tc := ⟨.hbm, 129, rfl⟩
abbrev main_call4_v12 : Ref sig .tc := ⟨.hbm, 130, rfl⟩
abbrev main_call4_v13 : Ref sig .tc := ⟨.hbm, 131, rfl⟩
abbrev main_call4_v14 : Ref sig .tc := ⟨.hbm, 132, rfl⟩
abbrev main_call4_cst : Ref sig .tc := ⟨.hbm, 133, rfl⟩
abbrev main_call4_v15 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_cst_10 : Ref sig .tc := ⟨.hbm, 138, rfl⟩
abbrev main_v63 : Ref sig .tc := ⟨.hbm, 139, rfl⟩
abbrev main_cst_11 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_cst_12 : Ref sig .tc := ⟨.hbm, 144, rfl⟩
abbrev main_v67 : Ref sig .tc := ⟨.hbm, 145, rfl⟩
abbrev main_cst_13 : Ref sig .tc := ⟨.hbm, 146, rfl⟩
abbrev main_v68 : Ref sig .tc := ⟨.hbm, 147, rfl⟩
abbrev main_cst_14 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_cst_15 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_cst_16 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_cst_17 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_call5_v0 : Ref sig .tc := ⟨.hbm, 172, rfl⟩
abbrev main_call5_cst : Ref sig .tc := ⟨.hbm, 173, rfl⟩
abbrev main_call5_c : Ref sig .tc := ⟨.hbm, 174, rfl⟩
abbrev main_call5_v1_0 : Ref sig .tc := ⟨.hbm, 175, rfl⟩
abbrev main_v89 : Ref sig .tc := ⟨.hbm, 176, rfl⟩
abbrev main_call6_c : Ref sig .tc := ⟨.hbm, 177, rfl⟩
abbrev main_call6_v0 : Ref sig .tc := ⟨.hbm, 178, rfl⟩
abbrev main_call6_v1 : Ref sig .tc := ⟨.hbm, 179, rfl⟩
abbrev main_call6_c_0 : Ref sig .tc := ⟨.hbm, 180, rfl⟩
abbrev main_call6_v2 : Ref sig .tc := ⟨.hbm, 181, rfl⟩
abbrev main_call6_v3 : Ref sig .tc := ⟨.hbm, 182, rfl⟩
abbrev main_call6_v4 : Ref sig .tc := ⟨.hbm, 183, rfl⟩
abbrev main_call6_v5 : Ref sig .tc := ⟨.hbm, 184, rfl⟩
abbrev main_call6_c_1 : Ref sig .tc := ⟨.hbm, 185, rfl⟩
abbrev main_call6_c_2 : Ref sig .tc := ⟨.hbm, 186, rfl⟩
abbrev main_call6_v6 : Ref sig .tc := ⟨.hbm, 187, rfl⟩
abbrev main_call6_v7 : Ref sig .tc := ⟨.hbm, 188, rfl⟩
abbrev main_call6_v8 : Ref sig .tc := ⟨.hbm, 189, rfl⟩
abbrev main_call6_v9 : Ref sig .tc := ⟨.hbm, 190, rfl⟩
abbrev main_call6_v10 : Ref sig .tc := ⟨.hbm, 191, rfl⟩
abbrev main_call6_v11 : Ref sig .tc := ⟨.hbm, 192, rfl⟩
abbrev main_call6_c_3 : Ref sig .tc := ⟨.hbm, 193, rfl⟩
abbrev main_call6_v12 : Ref sig .tc := ⟨.hbm, 194, rfl⟩
abbrev main_call6_v13 : Ref sig .tc := ⟨.hbm, 195, rfl⟩
abbrev main_call6_v14 : Ref sig .tc := ⟨.hbm, 196, rfl⟩
abbrev main_call6_cst : Ref sig .tc := ⟨.hbm, 197, rfl⟩
abbrev main_call6_v15 : Ref sig .tc := ⟨.hbm, 198, rfl⟩
abbrev main_v90 : Ref sig .tc := ⟨.hbm, 199, rfl⟩
abbrev main_v91 : Ref sig .tc := ⟨.hbm, 200, rfl⟩
abbrev main_v92 : Ref sig .tc := ⟨.hbm, 201, rfl⟩
abbrev main_cst_18 : Ref sig .tc := ⟨.hbm, 202, rfl⟩
abbrev main_v93 : Ref sig .tc := ⟨.hbm, 203, rfl⟩
abbrev main_cst_19 : Ref sig .tc := ⟨.hbm, 204, rfl⟩
abbrev main_v94 : Ref sig .tc := ⟨.hbm, 205, rfl⟩
abbrev main_v95 : Ref sig .tc := ⟨.hbm, 206, rfl⟩
abbrev main_v96 : Ref sig .tc := ⟨.hbm, 207, rfl⟩
abbrev main_cst_20 : Ref sig .tc := ⟨.hbm, 208, rfl⟩
abbrev main_v97 : Ref sig .tc := ⟨.hbm, 209, rfl⟩
abbrev main_cst_21 : Ref sig .tc := ⟨.hbm, 210, rfl⟩
abbrev main_v98 : Ref sig .tc := ⟨.hbm, 211, rfl⟩
abbrev main_cst_22 : Ref sig .tc := ⟨.hbm, 212, rfl⟩
abbrev main_v99 : Ref sig .tc := ⟨.hbm, 213, rfl⟩
abbrev main_v100 : Ref sig .tc := ⟨.hbm, 214, rfl⟩
abbrev main_v101 : Ref sig .tc := ⟨.hbm, 215, rfl⟩
abbrev main_v102 : Ref sig .tc := ⟨.hbm, 216, rfl⟩
abbrev main_v103 : Ref sig .tc := ⟨.hbm, 217, rfl⟩
abbrev main_v104 : Ref sig .tc := ⟨.hbm, 218, rfl⟩
abbrev main_v105 : Ref sig .tc := ⟨.hbm, 219, rfl⟩
abbrev main_cst_23 : Ref sig .tc := ⟨.hbm, 220, rfl⟩
abbrev main_v106 : Ref sig .tc := ⟨.hbm, 221, rfl⟩
abbrev main_v107 : Ref sig .tc := ⟨.hbm, 222, rfl⟩
abbrev main_v108 : Ref sig .tc := ⟨.hbm, 223, rfl⟩
abbrev main_cst_24 : Ref sig .tc := ⟨.hbm, 224, rfl⟩
abbrev main_v109 : Ref sig .tc := ⟨.hbm, 225, rfl⟩
abbrev main_v110 : Ref sig .tc := ⟨.hbm, 226, rfl⟩
abbrev main_v111 : Ref sig .tc := ⟨.hbm, 227, rfl⟩
abbrev main_v112 : Ref sig .tc := ⟨.hbm, 228, rfl⟩
abbrev main_v113 : Ref sig .tc := ⟨.hbm, 229, rfl⟩
abbrev main_v114 : Ref sig .tc := ⟨.hbm, 230, rfl⟩
abbrev main_v115 : Ref sig .tc := ⟨.hbm, 231, rfl⟩
abbrev main_cst_25 : Ref sig .tc := ⟨.hbm, 232, rfl⟩
abbrev main_v116 : Ref sig .tc := ⟨.hbm, 233, rfl⟩
abbrev main_v117 : Ref sig .tc := ⟨.hbm, 234, rfl⟩
abbrev main_v118 : Ref sig .tc := ⟨.hbm, 235, rfl⟩
abbrev main_call7_v0 : Ref sig .tc := ⟨.hbm, 236, rfl⟩
abbrev main_call7_cst : Ref sig .tc := ⟨.hbm, 237, rfl⟩
abbrev main_call7_c : Ref sig .tc := ⟨.hbm, 238, rfl⟩
abbrev main_call7_v1_0 : Ref sig .tc := ⟨.hbm, 239, rfl⟩
abbrev main_v119 : Ref sig .tc := ⟨.hbm, 240, rfl⟩
abbrev main_call8_c : Ref sig .tc := ⟨.hbm, 241, rfl⟩
abbrev main_call8_v0 : Ref sig .tc := ⟨.hbm, 242, rfl⟩
abbrev main_call8_v1 : Ref sig .tc := ⟨.hbm, 243, rfl⟩
abbrev main_call8_c_0 : Ref sig .tc := ⟨.hbm, 244, rfl⟩
abbrev main_call8_v2 : Ref sig .tc := ⟨.hbm, 245, rfl⟩
abbrev main_call8_v3 : Ref sig .tc := ⟨.hbm, 246, rfl⟩
abbrev main_call8_v4 : Ref sig .tc := ⟨.hbm, 247, rfl⟩
abbrev main_call8_v5 : Ref sig .tc := ⟨.hbm, 248, rfl⟩
abbrev main_call8_c_1 : Ref sig .tc := ⟨.hbm, 249, rfl⟩
abbrev main_call8_c_2 : Ref sig .tc := ⟨.hbm, 250, rfl⟩
abbrev main_call8_v6 : Ref sig .tc := ⟨.hbm, 251, rfl⟩
abbrev main_call8_v7 : Ref sig .tc := ⟨.hbm, 252, rfl⟩
abbrev main_call8_v8 : Ref sig .tc := ⟨.hbm, 253, rfl⟩
abbrev main_call8_v9 : Ref sig .tc := ⟨.hbm, 254, rfl⟩
abbrev main_call8_v10 : Ref sig .tc := ⟨.hbm, 255, rfl⟩
abbrev main_call8_v11 : Ref sig .tc := ⟨.hbm, 256, rfl⟩
abbrev main_call8_c_3 : Ref sig .tc := ⟨.hbm, 257, rfl⟩
abbrev main_call8_v12 : Ref sig .tc := ⟨.hbm, 258, rfl⟩
abbrev main_call8_v13 : Ref sig .tc := ⟨.hbm, 259, rfl⟩
abbrev main_call8_v14 : Ref sig .tc := ⟨.hbm, 260, rfl⟩
abbrev main_call8_cst : Ref sig .tc := ⟨.hbm, 261, rfl⟩
abbrev main_call8_v15 : Ref sig .tc := ⟨.hbm, 262, rfl⟩
abbrev main_v120 : Ref sig .tc := ⟨.hbm, 263, rfl⟩
abbrev main_v121 : Ref sig .tc := ⟨.hbm, 264, rfl⟩
abbrev main_v122 : Ref sig .tc := ⟨.hbm, 265, rfl⟩
abbrev main_cst_26 : Ref sig .tc := ⟨.hbm, 266, rfl⟩
abbrev main_v123 : Ref sig .tc := ⟨.hbm, 267, rfl⟩
abbrev main_cst_27 : Ref sig .tc := ⟨.hbm, 268, rfl⟩
abbrev main_v124 : Ref sig .tc := ⟨.hbm, 269, rfl⟩
abbrev main_v125 : Ref sig .tc := ⟨.hbm, 270, rfl⟩
abbrev main_v126 : Ref sig .tc := ⟨.hbm, 271, rfl⟩
abbrev main_cst_28 : Ref sig .tc := ⟨.hbm, 272, rfl⟩
abbrev main_v127 : Ref sig .tc := ⟨.hbm, 273, rfl⟩
abbrev main_cst_29 : Ref sig .tc := ⟨.hbm, 274, rfl⟩
abbrev main_v128 : Ref sig .tc := ⟨.hbm, 275, rfl⟩
abbrev main_cst_30 : Ref sig .tc := ⟨.hbm, 276, rfl⟩
abbrev main_v129 : Ref sig .tc := ⟨.hbm, 277, rfl⟩
abbrev main_v130 : Ref sig .tc := ⟨.hbm, 278, rfl⟩
abbrev main_v131 : Ref sig .tc := ⟨.hbm, 279, rfl⟩
abbrev main_v132 : Ref sig .tc := ⟨.hbm, 280, rfl⟩
abbrev main_v133 : Ref sig .tc := ⟨.hbm, 281, rfl⟩
abbrev main_v134 : Ref sig .tc := ⟨.hbm, 282, rfl⟩
abbrev main_v135 : Ref sig .tc := ⟨.hbm, 283, rfl⟩
abbrev main_v136 : Ref sig .tc := ⟨.hbm, 284, rfl⟩
abbrev main_v137 : Ref sig .tc := ⟨.hbm, 285, rfl⟩
abbrev main_v138 : Ref sig .tc := ⟨.hbm, 286, rfl⟩
abbrev main_cst_31 : Ref sig .tc := ⟨.hbm, 287, rfl⟩
abbrev main_v139 : Ref sig .tc := ⟨.hbm, 288, rfl⟩
abbrev main_cst_32 : Ref sig .tc := ⟨.hbm, 289, rfl⟩
abbrev main_v140 : Ref sig .tc := ⟨.hbm, 290, rfl⟩
abbrev main_v141 : Ref sig .tc := ⟨.hbm, 291, rfl⟩
abbrev main_v142 : Ref sig .tc := ⟨.hbm, 292, rfl⟩
abbrev main_v143 : Ref sig .tc := ⟨.hbm, 293, rfl⟩
abbrev main_v144 : Ref sig .tc := ⟨.hbm, 294, rfl⟩
abbrev main_v145 : Ref sig .tc := ⟨.hbm, 295, rfl⟩
abbrev main_v146 : Ref sig .tc := ⟨.hbm, 296, rfl⟩
abbrev main_v147 : Ref sig .tc := ⟨.hbm, 297, rfl⟩
abbrev main_v148 : Ref sig .tc := ⟨.hbm, 298, rfl⟩
abbrev main_v149 : Ref sig .tc := ⟨.hbm, 299, rfl⟩
abbrev main_call9_cst : Ref sig .tc := ⟨.hbm, 300, rfl⟩
abbrev main_call9_v0 : Ref sig .tc := ⟨.hbm, 301, rfl⟩
abbrev main_v150 : Ref sig .tc := ⟨.hbm, 302, rfl⟩
abbrev main_v151 : Ref sig .tc := ⟨.hbm, 303, rfl⟩
abbrev main_v152 : Ref sig .tc := ⟨.hbm, 304, rfl⟩
abbrev main_v153 : Ref sig .tc := ⟨.hbm, 305, rfl⟩
abbrev main_v154 : Ref sig .tc := ⟨.hbm, 306, rfl⟩

abbrev nD : Nat := 1
abbrev τ : Topo := Topo.v7x

variable {F : FTy → Type} [FloatOps F]
-- ==== Proof.RefOps.lean ====
/-
  The reference program as a list of array operations. Its @main is a straight line of StableHLO operations, some of them
  inside the functions @relu, @argmin and @take that it calls. This file restates that line as a list, piece by piece, and
  proves that @main is the list run from front to back (`main_eq`), that the operations touch nothing but the device's
  arrays (`ops_sub`), and that none leaves its result open (`ops_fresh`).
-/
module

public import proofs.«01_k».proof.Proof.Gen.ReferenceIdeal
public import Idealize.ShloMosaic.Lib.StableHlo.Run

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-! ## The functions that @main calls -/

/-- The operations of @relu: the maximum with zero. -/
def reluOps (x : TRef sig ⟨S16384x512, .f32⟩) (φ : fn_relu.Bufs) : List (HloOp τ sig (Elt F)) :=
  [TRef.nullary φ.cst (constant S_ .f32 0x00000000#32),
   TRef.unary φ.cst φ.v0 (broadcastInDim S16384x512 ![] bcast_S_S16384x512),
   TRef.binary x φ.v0 φ.v1 maximumf]

/-- The operations of @argmin: each row's smallest entry and its column. -/
def argminOps (x : TRef sig ⟨S16384x256, .f32⟩) (φ : fn_argmin.Bufs) : List (HloOp τ sig (Elt F)) :=
  [TRef.nullary φ.v0 (iotaInDim S16384x256 32 1),
   TRef.nullary φ.cst (constant S_ .f32 0x7F800000#32),
   TRef.nullary φ.c (constantI S_ 32 0#32),
   TRef.quaternary x φ.v0 φ.cst φ.c φ.v1_0
     (fun x y u v j => (Host.argReduce reducer_argmin_f32_i32 x y u v reducesTo_S16384x256_S16384_d1 h_S_ j).1),
   TRef.quaternary x φ.v0 φ.cst φ.c φ.v1_1
     (fun x y u v j => (Host.argReduce reducer_argmin_f32_i32 x y u v reducesTo_S16384x256_S16384_d1 h_S_ j).2)]

/-- The operations of @take: the codebook's vector at each row's index, with the index's checks. -/
def takeOps (cb : TRef sig ⟨S256x64, .f32⟩) (ix : TRef sig ⟨S16384, .i32⟩) (φ : fn_take.Bufs) : List (HloOp τ sig (Elt F)) :=
  [TRef.nullary φ.c (constantI S_ 32 0#32),
   TRef.unary φ.c φ.v0 (broadcastInDim S16384 ![] bcast_S_S16384),
   TRef.binary ix φ.v0 φ.v1 (cmpi .slt),
   TRef.nullary φ.c_0 (constantI S_ 32 256#32),
   TRef.unary φ.c_0 φ.v2 (broadcastInDim S16384 ![] bcast_S_S16384),
   TRef.binary ix φ.v2 φ.v3 addi,
   TRef.ternary φ.v1 φ.v3 ix φ.call0.v0 select,
   TRef.unary φ.call0.v0 φ.v5 (broadcastInDim S16384x1 ![0] bcast_S16384_S16384x1_0),
   TRef.nullary φ.c_1 (constantI S1 32 255#32),
   TRef.nullary φ.c_2 (constantI S_ 32 0#32),
   TRef.unary φ.c_2 φ.v6 (broadcastInDim S16384x1 ![] bcast_S_S16384x1),
   TRef.binary φ.v5 φ.v6 φ.v7 (cmpi .sge),
   TRef.unary φ.c_1 φ.v8 (broadcastInDim S1x1 ![1] bcast_S1_S1x1_1),
   TRef.unary φ.v8 φ.v9 (broadcastInDim S16384x1 ![0, 1] bcast_S1x1_S16384x1_0_1),
   TRef.binary φ.v5 φ.v9 φ.v10 (cmpi .sle),
   TRef.binary φ.v7 φ.v10 φ.v11 andi,
   TRef.nullary φ.c_3 (constantI S_ 1 1#1),
   TRef.binary φ.v11 φ.c_3 φ.v12 (fun x v => Host.reduce IntOp.andi x v reducesTo_S16384x1_S16384_d1 h_S_),
   TRef.binary cb φ.v5 φ.v13 (fun x i => Host.gather gather_S256x64_S16384x1_S16384x64_1_0_n_n_0_1_164 x i),
   TRef.unary φ.v12 φ.v14 (broadcastInDim S16384x64 ![0] bcast_S16384_S16384x64_0),
   TRef.nullary φ.cst (constant S_ .f32 0x7FC00000#32),
   TRef.unary φ.cst φ.v15 (broadcastInDim S16384x64 ![] bcast_S_S16384x64),
   TRef.ternary φ.v14 φ.v13 φ.v15 φ.v16 select]

/-! ## The pieces of @main -/

/-- The first encoder layer before its maximum with zero. -/
def enc1 : List (HloOp τ sig (Elt F)) :=
  [binary main_arg0 main_arg1 main_v0 (fun l r => Host.dotGeneral dot_S16384x768_S768x512_S16384x512_1_0_0_1_n_n none l r),
   unary main_arg2 main_v1 (broadcastInDim S1x512 ![1] bcast_S512_S1x512_1),
   unary main_v1 main_v2 (broadcastInDim S16384x512 ![0, 1] bcast_S1x512_S16384x512_0_1),
   binary main_v0 main_v2 main_v3 addf]

/-- The second encoder layer and its four column slices, one per codebook. -/
def enc2 : List (HloOp τ sig (Elt F)) :=
  [binary main_v4 main_arg3 main_v5 (fun l r => Host.dotGeneral dot_S16384x512_S512x256_S16384x256_1_0_0_1_n_n none l r),
   unary main_arg4 main_v6 (broadcastInDim S1x256 ![1] bcast_S256_S1x256_1),
   unary main_v6 main_v7 (broadcastInDim S16384x256 ![0, 1] bcast_S1x256_S16384x256_0_1),
   binary main_v5 main_v7 main_v8 addf,
   unary main_v8 main_v9 (extractStridedSlice S16384x64 ![0, 0] · slices_S16384x256_S16384x64_0_0),
   unary main_v8 main_v10 (extractStridedSlice S16384x64 ![0, 64] · slices_S16384x256_S16384x64_0_64),
   unary main_v8 main_v11 (extractStridedSlice S16384x64 ![0, 128] · slices_S16384x256_S16384x64_0_128),
   unary main_v8 main_v12 (extractStridedSlice S16384x64 ![0, 192] · slices_S16384x256_S16384x64_0_192)]

/-- Codebook 0 and the squared distance of every row of its slice to every one of its vectors. -/
def dist0 : List (HloOp τ sig (Elt F)) :=
  [unary main_arg5 main_v13 (extractStridedSlice S1x256x64 ![0, 0, 0] · slices_S4x256x64_S1x256x64_0_0_0),
   reshape main_v13 main_v14 (rfl : (.f32 : EltTy) = .f32) shapeCasts_S1x256x64_S256x64,
   binary main_v9 main_v9 main_v15 mulf,
   nullary main_cst (constant S_ .f32 0x00000000#32),
   binary main_v15 main_cst main_v16 (fun x v => Host.reduceAdd x v reducesTo_S16384x64_S16384_d1 h_S_),
   unary main_v16 main_v17 (broadcastInDim S16384x1 ![0] bcast_S16384_S16384x1_0),
   binary main_v14 main_v14 main_v18 mulf,
   nullary main_cst_0 (constant S_ .f32 0x00000000#32),
   binary main_v18 main_cst_0 main_v19 (fun x v => Host.reduceAdd x v reducesTo_S256x64_S256_d1 h_S_),
   unary main_v19 main_v20 (broadcastInDim S1x256 ![1] bcast_S256_S1x256_1),
   unary main_v17 main_v21 (broadcastInDim S16384x256 ![0, 1] bcast_S16384x1_S16384x256_0_1),
   unary main_v20 main_v22 (broadcastInDim S16384x256 ![0, 1] bcast_S1x256_S16384x256_0_1),
   binary main_v21 main_v22 main_v23 addf,
   unary main_v14 main_v24 (transpose S64x256 [1, 0] · transposes_S256x64_S64x256_1_0),
   binary main_v9 main_v24 main_v25 (fun l r => Host.dotGeneral dot_S16384x64_S64x256_S16384x256_1_0_0_1_n_n none l r),
   nullary main_cst_1 (constant S_ .f32 0x40000000#32),
   unary main_cst_1 main_v26 (broadcastInDim S16384x256 ![] bcast_S_S16384x256),
   binary main_v26 main_v25 main_v27 mulf,
   binary main_v23 main_v27 main_v28 subf]

/-- The loss of codebook 0 and its quantised slice. -/
def loss0 : List (HloOp τ sig (Elt F)) :=
  [binary main_v30 main_v9 main_v31 subf,
   binary main_v31 main_v31 main_v32 mulf,
   nullary main_cst_2 (constant S_ .f32 0x00000000#32),
   binary main_v32 main_cst_2 main_v33 (fun x v => Host.reduceAdd x v reducesTo_S16384x64_S_d0_1 h_S_),
   nullary main_cst_3 (constant S_ .f32 0x49800000#32),
   binary main_v33 main_cst_3 main_v34 Host.divf,
   binary main_v30 main_v9 main_v35 subf,
   binary main_v35 main_v35 main_v36 mulf,
   nullary main_cst_4 (constant S_ .f32 0x00000000#32),
   binary main_v36 main_cst_4 main_v37 (fun x v => Host.reduceAdd x v reducesTo_S16384x64_S_d0_1 h_S_),
   nullary main_cst_5 (constant S_ .f32 0x49800000#32),
   binary main_v37 main_cst_5 main_v38 Host.divf,
   nullary main_cst_6 (constant S_ .f32 0x3E800000#32),
   binary main_cst_6 main_v34 main_v39 mulf,
   binary main_v38 main_v39 main_v40 addf,
   binary main_v30 main_v9 main_v41 subf,
   binary main_v9 main_v41 main_v42 addf]

/-- Codebook 1 and the squared distance of every row of its slice to every one of its vectors. -/
def dist1 : List (HloOp τ sig (Elt F)) :=
  [unary main_arg5 main_v43 (extractStridedSlice S1x256x64 ![1, 0, 0] · slices_S4x256x64_S1x256x64_1_0_0),
   reshape main_v43 main_v44 (rfl : (.f32 : EltTy) = .f32) shapeCasts_S1x256x64_S256x64,
   binary main_v10 main_v10 main_v45 mulf,
   nullary main_cst_7 (constant S_ .f32 0x00000000#32),
   binary main_v45 main_cst_7 main_v46 (fun x v => Host.reduceAdd x v reducesTo_S16384x64_S16384_d1 h_S_),
   unary main_v46 main_v47 (broadcastInDim S16384x1 ![0] bcast_S16384_S16384x1_0),
   binary main_v44 main_v44 main_v48 mulf,
   nullary main_cst_8 (constant S_ .f32 0x00000000#32),
   binary main_v48 main_cst_8 main_v49 (fun x v => Host.reduceAdd x v reducesTo_S256x64_S256_d1 h_S_),
   unary main_v49 main_v50 (broadcastInDim S1x256 ![1] bcast_S256_S1x256_1),
   unary main_v47 main_v51 (broadcastInDim S16384x256 ![0, 1] bcast_S16384x1_S16384x256_0_1),
   unary main_v50 main_v52 (broadcastInDim S16384x256 ![0, 1] bcast_S1x256_S16384x256_0_1),
   binary main_v51 main_v52 main_v53 addf,
   unary main_v44 main_v54 (transpose S64x256 [1, 0] · transposes_S256x64_S64x256_1_0),
   binary main_v10 main_v54 main_v55 (fun l r => Host.dotGeneral dot_S16384x64_S64x256_S16384x256_1_0_0_1_n_n none l r),
   nullary main_cst_9 (constant S_ .f32 0x40000000#32),
   unary main_cst_9 main_v56 (broadcastInDim S16384x256 ![] bcast_S_S16384x256),
   binary main_v56 main_v55 main_v57 mulf,
   binary main_v53 main_v57 main_v58 subf]

/-- The loss of codebook 1 and its quantised slice. -/
def loss1 : List (HloOp τ sig (Elt F)) :=
  [binary main_v60 main_v10 main_v61 subf,
   binary main_v61 main_v61 main_v62 mulf,
   nullary main_cst_10 (constant S_ .f32 0x00000000#32),
   binary main_v62 main_cst_10 main_v63 (fun x v => Host.reduceAdd x v reducesTo_S16384x64_S_d0_1 h_S_),
   nullary main_cst_11 (constant S_ .f32 0x49800000#32),
   binary main_v63 main_cst_11 main_v64 Host.divf,
   binary main_v60 main_v10 main_v65 subf,
   binary main_v65 main_v65 main_v66 mulf,
   nullary main_cst_12 (constant S_ .f32 0x00000000#32),
   binary main_v66 main_cst_12 main_v67 (fun x v => Host.reduceAdd x v reducesTo_S16384x64_S_d0_1 h_S_),
   nullary main_cst_13 (constant S_ .f32 0x49800000#32),
   binary main_v67 main_cst_13 main_v68 Host.divf,
   nullary main_cst_14 (constant S_ .f32 0x3E800000#32),
   binary main_cst_14 main_v64 main_v69 mulf,
   binary main_v68 main_v69 main_v70 addf,
   binary main_v60 main_v10 main_v71 subf,
   binary main_v10 main_v71 main_v72 addf]

/-- Codebook 2 and the squared distance of every row of its slice to every one of its vectors. -/
def dist2 : List (HloOp τ sig (Elt F)) :=
  [unary main_arg5 main_v73 (extractStridedSlice S1x256x64 ![2, 0, 0] · slices_S4x256x64_S1x256x64_2_0_0),
   reshape main_v73 main_v74 (rfl : (.f32 : EltTy) = .f32) shapeCasts_S1x256x64_S256x64,
   binary main_v11 main_v11 main_v75 mulf,
   nullary main_cst_15 (constant S_ .f32 0x00000000#32),
   binary main_v75 main_cst_15 main_v76 (fun x v => Host.reduceAdd x v reducesTo_S16384x64_S16384_d1 h_S_),
   unary main_v76 main_v77 (broadcastInDim S16384x1 ![0] bcast_S16384_S16384x1_0),
   binary main_v74 main_v74 main_v78 mulf,
   nullary main_cst_16 (constant S_ .f32 0x00000000#32),
   binary main_v78 main_cst_16 main_v79 (fun x v => Host.reduceAdd x v reducesTo_S256x64_S256_d1 h_S_),
   unary main_v79 main_v80 (broadcastInDim S1x256 ![1] bcast_S256_S1x256_1),
   unary main_v77 main_v81 (broadcastInDim S16384x256 ![0, 1] bcast_S16384x1_S16384x256_0_1),
   unary main_v80 main_v82 (broadcastInDim S16384x256 ![0, 1] bcast_S1x256_S16384x256_0_1),
   binary main_v81 main_v82 main_v83 addf,
   unary main_v74 main_v84 (transpose S64x256 [1, 0] · transposes_S256x64_S64x256_1_0),
   binary main_v11 main_v84 main_v85 (fun l r => Host.dotGeneral dot_S16384x64_S64x256_S16384x256_1_0_0_1_n_n none l r),
   nullary main_cst_17 (constant S_ .f32 0x40000000#32),
   unary main_cst_17 main_v86 (broadcastInDim S16384x256 ![] bcast_S_S16384x256),
   binary main_v86 main_v85 main_v87 mulf,
   binary main_v83 main_v87 main_v88 subf]

/-- The loss of codebook 2 and its quantised slice. -/
def loss2 : List (HloOp τ sig (Elt F)) :=
  [binary main_v90 main_v11 main_v91 subf,
   binary main_v91 main_v91 main_v92 mulf,
   nullary main_cst_18 (constant S_ .f32 0x00000000#32),
   binary main_v92 main_cst_18 main_v93 (fun x v => Host.reduceAdd x v reducesTo_S16384x64_S_d0_1 h_S_),
   nullary main_cst_19 (constant S_ .f32 0x49800000#32),
   binary main_v93 main_cst_19 main_v94 Host.divf,
   binary main_v90 main_v11 main_v95 subf,
   binary main_v95 main_v95 main_v96 mulf,
   nullary main_cst_20 (constant S_ .f32 0x00000000#32),
   binary main_v96 main_cst_20 main_v97 (fun x v => Host.reduceAdd x v reducesTo_S16384x64_S_d0_1 h_S_),
   nullary main_cst_21 (constant S_ .f32 0x49800000#32),
   binary main_v97 main_cst_21 main_v98 Host.divf,
   nullary main_cst_22 (constant S_ .f32 0x3E800000#32),
   binary main_cst_22 main_v94 main_v99 mulf,
   binary main_v98 main_v99 main_v100 addf,
   binary main_v90 main_v11 main_v101 subf,
   binary main_v11 main_v101 main_v102 addf]

/-- Codebook 3 and the squared distance of every row of its slice to every one of its vectors. -/
def dist3 : List (HloOp τ sig (Elt F)) :=
  [unary main_arg5 main_v103 (extractStridedSlice S1x256x64 ![3, 0, 0] · slices_S4x256x64_S1x256x64_3_0_0),
   reshape main_v103 main_v104 (rfl : (.f32 : EltTy) = .f32) shapeCasts_S1x256x64_S256x64,
   binary main_v12 main_v12 main_v105 mulf,
   nullary main_cst_23 (constant S_ .f32 0x00000000#32),
   binary main_v105 main_cst_23 main_v106 (fun x v => Host.reduceAdd x v reducesTo_S16384x64_S16384_d1 h_S_),
   unary main_v106 main_v107 (broadcastInDim S16384x1 ![0] bcast_S16384_S16384x1_0),
   binary main_v104 main_v104 main_v108 mulf,
   nullary main_cst_24 (constant S_ .f32 0x00000000#32),
   binary main_v108 main_cst_24 main_v109 (fun x v => Host.reduceAdd x v reducesTo_S256x64_S256_d1 h_S_),
   unary main_v109 main_v110 (broadcastInDim S1x256 ![1] bcast_S256_S1x256_1),
   unary main_v107 main_v111 (broadcastInDim S16384x256 ![0, 1] bcast_S16384x1_S16384x256_0_1),
   unary main_v110 main_v112 (broadcastInDim S16384x256 ![0, 1] bcast_S1x256_S16384x256_0_1),
   binary main_v111 main_v112 main_v113 addf,
   unary main_v104 main_v114 (transpose S64x256 [1, 0] · transposes_S256x64_S64x256_1_0),
   binary main_v12 main_v114 main_v115 (fun l r => Host.dotGeneral dot_S16384x64_S64x256_S16384x256_1_0_0_1_n_n none l r),
   nullary main_cst_25 (constant S_ .f32 0x40000000#32),
   unary main_cst_25 main_v116 (broadcastInDim S16384x256 ![] bcast_S_S16384x256),
   binary main_v116 main_v115 main_v117 mulf,
   binary main_v113 main_v117 main_v118 subf]

/-- The loss of codebook 3 and its quantised slice. -/
def loss3 : List (HloOp τ sig (Elt F)) :=
  [binary main_v120 main_v12 main_v121 subf,
   binary main_v121 main_v121 main_v122 mulf,
   nullary main_cst_26 (constant S_ .f32 0x00000000#32),
   binary main_v122 main_cst_26 main_v123 (fun x v => Host.reduceAdd x v reducesTo_S16384x64_S_d0_1 h_S_),
   nullary main_cst_27 (constant S_ .f32 0x49800000#32),
   binary main_v123 main_cst_27 main_v124 Host.divf,
   binary main_v120 main_v12 main_v125 subf,
   binary main_v125 main_v125 main_v126 mulf,
   nullary main_cst_28 (constant S_ .f32 0x00000000#32),
   binary main_v126 main_cst_28 main_v127 (fun x v => Host.reduceAdd x v reducesTo_S16384x64_S_d0_1 h_S_),
   nullary main_cst_29 (constant S_ .f32 0x49800000#32),
   binary main_v127 main_cst_29 main_v128 Host.divf,
   nullary main_cst_30 (constant S_ .f32 0x3E800000#32),
   binary main_cst_30 main_v124 main_v129 mulf,
   binary main_v128 main_v129 main_v130 addf,
   binary main_v120 main_v12 main_v131 subf,
   binary main_v12 main_v131 main_v132 addf]

/-- The quantised slices side by side, the mean of the four losses, the four columns of indices. -/
def finish : List (HloOp τ sig (Elt F)) :=
  [nary ![main_v42, main_v72, main_v102, main_v132] main_v133 (fun u => (concatenate S16384x256 1 [⟨S16384x64, (u 0 : (⟨S16384x64, .f32⟩ : BufTy).Contents (Elt F))⟩, ⟨S16384x64, (u 1 : (⟨S16384x64, .f32⟩ : BufTy).Contents (Elt F))⟩, ⟨S16384x64, (u 2 : (⟨S16384x64, .f32⟩ : BufTy).Contents (Elt F))⟩, ⟨S16384x64, (u 3 : (⟨S16384x64, .f32⟩ : BufTy).Contents (Elt F))⟩] concatenates_S16384x64_S16384x64_S16384x64_S16384x64_S16384x256_d1 : (⟨S16384x256, .f32⟩ : BufTy).Contents (Elt F))),
   unary main_v40 main_v134 (broadcastInDim S1 ![] bcast_S_S1),
   unary main_v70 main_v135 (broadcastInDim S1 ![] bcast_S_S1),
   unary main_v100 main_v136 (broadcastInDim S1 ![] bcast_S_S1),
   unary main_v130 main_v137 (broadcastInDim S1 ![] bcast_S_S1),
   nary ![main_v134, main_v135, main_v136, main_v137] main_v138 (fun u => (concatenate S4 0 [⟨S1, (u 0 : (⟨S1, .f32⟩ : BufTy).Contents (Elt F))⟩, ⟨S1, (u 1 : (⟨S1, .f32⟩ : BufTy).Contents (Elt F))⟩, ⟨S1, (u 2 : (⟨S1, .f32⟩ : BufTy).Contents (Elt F))⟩, ⟨S1, (u 3 : (⟨S1, .f32⟩ : BufTy).Contents (Elt F))⟩] concatenates_S1_S1_S1_S1_S4_d0 : (⟨S4, .f32⟩ : BufTy).Contents (Elt F))),
   nullary main_cst_31 (constant S_ .f32 0x00000000#32),
   binary main_v138 main_cst_31 main_v139 (fun x v => Host.reduceAdd x v reducesTo_S4_S_d0 h_S_),
   nullary main_cst_32 (constant S_ .f32 0x40800000#32),
   binary main_v139 main_cst_32 main_v140 Host.divf,
   unary main_v29 main_v141 (broadcastInDim S16384x1 ![0] bcast_S16384_S16384x1_0),
   unary main_v59 main_v142 (broadcastInDim S16384x1 ![0] bcast_S16384_S16384x1_0),
   unary main_v89 main_v143 (broadcastInDim S16384x1 ![0] bcast_S16384_S16384x1_0),
   unary main_v119 main_v144 (broadcastInDim S16384x1 ![0] bcast_S16384_S16384x1_0),
   nary ![main_v141, main_v142, main_v143, main_v144] main_v145 (fun u => (concatenate S16384x4 1 [⟨S16384x1, (u 0 : (⟨S16384x1, .i32⟩ : BufTy).Contents (Elt F))⟩, ⟨S16384x1, (u 1 : (⟨S16384x1, .i32⟩ : BufTy).Contents (Elt F))⟩, ⟨S16384x1, (u 2 : (⟨S16384x1, .i32⟩ : BufTy).Contents (Elt F))⟩, ⟨S16384x1, (u 3 : (⟨S16384x1, .i32⟩ : BufTy).Contents (Elt F))⟩] concatenates_S16384x1_S16384x1_S16384x1_S16384x1_S16384x4_d1 : (⟨S16384x4, .i32⟩ : BufTy).Contents (Elt F)))]

/-- The first decoder layer before its maximum with zero. -/
def dec1 : List (HloOp τ sig (Elt F)) :=
  [binary main_v133 main_arg6 main_v146 (fun l r => Host.dotGeneral dot_S16384x256_S256x512_S16384x512_1_0_0_1_n_n none l r),
   unary main_arg7 main_v147 (broadcastInDim S1x512 ![1] bcast_S512_S1x512_1),
   unary main_v147 main_v148 (broadcastInDim S16384x512 ![0, 1] bcast_S1x512_S16384x512_0_1),
   binary main_v146 main_v148 main_v149 addf]

/-- The second decoder layer. -/
def dec2 : List (HloOp τ sig (Elt F)) :=
  [binary main_v150 main_arg8 main_v151 (fun l r => Host.dotGeneral dot_S16384x512_S512x768_S16384x768_1_0_0_1_n_n none l r),
   unary main_arg9 main_v152 (broadcastInDim S1x768 ![1] bcast_S768_S1x768_1),
   unary main_v152 main_v153 (broadcastInDim S16384x768 ![0, 1] bcast_S1x768_S16384x768_0_1),
   binary main_v151 main_v153 main_v154 addf]

/-- What @main does for codebook 0. -/
def level0 : List (HloOp τ sig (Elt F)) :=
  dist0 ++ argminOps (.of main_v28) main_call1 ++ takeOps (.of main_v14) (.of main_v29) main_call2 ++ loss0
/-- What @main does for codebook 1. -/
def level1 : List (HloOp τ sig (Elt F)) :=
  dist1 ++ argminOps (.of main_v58) main_call3 ++ takeOps (.of main_v44) (.of main_v59) main_call4 ++ loss1
/-- What @main does for codebook 2. -/
def level2 : List (HloOp τ sig (Elt F)) :=
  dist2 ++ argminOps (.of main_v88) main_call5 ++ takeOps (.of main_v74) (.of main_v89) main_call6 ++ loss2
/-- What @main does for codebook 3. -/
def level3 : List (HloOp τ sig (Elt F)) :=
  dist3 ++ argminOps (.of main_v118) main_call7 ++ takeOps (.of main_v104) (.of main_v119) main_call8 ++ loss3

/-- What @main does before the first codebook. -/
def before : List (HloOp τ sig (Elt F)) := enc1 ++ reluOps (.of main_v3) main_call0 ++ enc2
/-- What @main does after the last codebook. -/
def behind : List (HloOp τ sig (Elt F)) := finish ++ dec1 ++ reluOps (.of main_v149) main_call9 ++ dec2

/-- All of @main. -/
def ops : List (HloOp τ sig (Elt F)) := before ++ (level0 ++ (level1 ++ (level2 ++ (level3 ++ behind))))

set_option maxHeartbeats 4000000 in
/-- @main is that line. -/
theorem main_eq (c : Dev nD) : main (F := F) c = seq ops := rfl

set_option maxHeartbeats 4000000 in
/-- Every operation touches the device's arrays only. -/
theorem ops_sub : (ops : List (HloOp τ sig (Elt F))).Forall fun op => op.bufs ⊆ tcRefs τ sig := by
  simp only [ops, before, behind, level0, level1, level2, level3, enc1, enc2, finish, dec1, dec2, reluOps, argminOps, takeOps,
    dist0, dist1, dist2, dist3, loss0, loss1, loss2, loss3, List.forall_append, List.forall_cons, List.Forall, nullary_bufs_sub, unary_bufs_sub, binary_bufs_sub,
    ternary_bufs_sub, quaternary_bufs_sub, reshape_bufs_sub, nary_bufs_sub, and_self]

set_option maxHeartbeats 4000000 in
/-- Every operation determines its result. -/
theorem ops_fresh : (ops : List (HloOp τ sig (Elt F))).Forall fun op => op.fresh = ∅ :=
  forall_fresh_of_map rfl

/-! ## Which arrays each piece writes -/

/-- The arrays that `before` writes, in order. -/
def beforeWrites : List (Ref sig .tc) :=
  [main_v0, main_v1, main_v2, main_v3, main_call0_cst, main_call0_v0, main_v4, main_v5, main_v6, main_v7, main_v8,
   main_v9, main_v10, main_v11, main_v12]
/-- The arrays that `behind` writes, in order. -/
def behindWrites : List (Ref sig .tc) :=
  [main_v133, main_v134, main_v135, main_v136, main_v137, main_v138, main_cst_31, main_v139, main_cst_32, main_v140,
   main_v141, main_v142, main_v143, main_v144, main_v145, main_v146, main_v147, main_v148, main_v149, main_call9_cst,
   main_call9_v0, main_v150, main_v151, main_v152, main_v153, main_v154]
/-- The arrays that `dist0` writes, in order. -/
def dist0Writes : List (Ref sig .tc) :=
  [main_v13, main_v14, main_v15, main_cst, main_v16, main_v17, main_v18, main_cst_0, main_v19, main_v20, main_v21,
   main_v22, main_v23, main_v24, main_v25, main_cst_1, main_v26, main_v27, main_v28]
/-- The arrays that `loss0` writes, in order. -/
def loss0Writes : List (Ref sig .tc) :=
  [main_v31, main_v32, main_cst_2, main_v33, main_cst_3, main_v34, main_v35, main_v36, main_cst_4, main_v37, main_cst_5,
   main_v38, main_cst_6, main_v39, main_v40, main_v41, main_v42]
/-- The arrays that `dist1` writes, in order. -/
def dist1Writes : List (Ref sig .tc) :=
  [main_v43, main_v44, main_v45, main_cst_7, main_v46, main_v47, main_v48, main_cst_8, main_v49, main_v50, main_v51,
   main_v52, main_v53, main_v54, main_v55, main_cst_9, main_v56, main_v57, main_v58]
/-- The arrays that `loss1` writes, in order. -/
def loss1Writes : List (Ref sig .tc) :=
  [main_v61, main_v62, main_cst_10, main_v63, main_cst_11, main_v64, main_v65, main_v66, main_cst_12, main_v67,
   main_cst_13, main_v68, main_cst_14, main_v69, main_v70, main_v71, main_v72]
/-- The arrays that `dist2` writes, in order. -/
def dist2Writes : List (Ref sig .tc) :=
  [main_v73, main_v74, main_v75, main_cst_15, main_v76, main_v77, main_v78, main_cst_16, main_v79, main_v80, main_v81,
   main_v82, main_v83, main_v84, main_v85, main_cst_17, main_v86, main_v87, main_v88]
/-- The arrays that `loss2` writes, in order. -/
def loss2Writes : List (Ref sig .tc) :=
  [main_v91, main_v92, main_cst_18, main_v93, main_cst_19, main_v94, main_v95, main_v96, main_cst_20, main_v97,
   main_cst_21, main_v98, main_cst_22, main_v99, main_v100, main_v101, main_v102]
/-- The arrays that `dist3` writes, in order. -/
def dist3Writes : List (Ref sig .tc) :=
  [main_v103, main_v104, main_v105, main_cst_23, main_v106, main_v107, main_v108, main_cst_24, main_v109, main_v110,
   main_v111, main_v112, main_v113, main_v114, main_v115, main_cst_25, main_v116, main_v117, main_v118]
/-- The arrays that `loss3` writes, in order. -/
def loss3Writes : List (Ref sig .tc) :=
  [main_v121, main_v122, main_cst_26, main_v123, main_cst_27, main_v124, main_v125, main_v126, main_cst_28, main_v127,
   main_cst_29, main_v128, main_cst_30, main_v129, main_v130, main_v131, main_v132]
/-- The arrays that a call of @argmin writes, in order. -/
def argminWrites (φ : fn_argmin.Bufs) : List (Ref sig .tc) := [φ.v0.ref, φ.cst.ref, φ.c.ref, φ.v1_0.ref, φ.v1_1.ref]
/-- The arrays that a call of @take writes, in order. -/
def takeWrites (φ : fn_take.Bufs) : List (Ref sig .tc) :=
  [φ.c.ref, φ.v0.ref, φ.v1.ref, φ.c_0.ref, φ.v2.ref, φ.v3.ref, φ.call0.v0.ref, φ.v5.ref, φ.c_1.ref, φ.c_2.ref, φ.v6.ref, φ.v7.ref,
   φ.v8.ref, φ.v9.ref, φ.v10.ref, φ.v11.ref, φ.c_3.ref, φ.v12.ref, φ.v13.ref, φ.v14.ref, φ.cst.ref, φ.v15.ref, φ.v16.ref]

/-- `before` leaves every other array as it was. -/
theorem before_keeps (V : Valuation τ sig (Elt F)) {r : Ref sig .tc} (hr : r ∉ beforeWrites) :
    after before V (no_index (Proc.devRef .tc r)) = V (Proc.devRef .tc r) :=
  after_of_writes_sub before V (forall_writes_sub_of_map rfl) hr
/-- `behind` leaves every other array as it was. -/
theorem behind_keeps (V : Valuation τ sig (Elt F)) {r : Ref sig .tc} (hr : r ∉ behindWrites) :
    after behind V (no_index (Proc.devRef .tc r)) = V (Proc.devRef .tc r) :=
  after_of_writes_sub behind V (forall_writes_sub_of_map rfl) hr
/-- `dist0` leaves every other array as it was. -/
theorem dist0_keeps (V : Valuation τ sig (Elt F)) {r : Ref sig .tc} (hr : r ∉ dist0Writes) :
    after dist0 V (no_index (Proc.devRef .tc r)) = V (Proc.devRef .tc r) :=
  after_of_writes_sub dist0 V (forall_writes_sub_of_map rfl) hr
/-- `loss0` leaves every other array as it was. -/
theorem loss0_keeps (V : Valuation τ sig (Elt F)) {r : Ref sig .tc} (hr : r ∉ loss0Writes) :
    after loss0 V (no_index (Proc.devRef .tc r)) = V (Proc.devRef .tc r) :=
  after_of_writes_sub loss0 V (forall_writes_sub_of_map rfl) hr
/-- `dist1` leaves every other array as it was. -/
theorem dist1_keeps (V : Valuation τ sig (Elt F)) {r : Ref sig .tc} (hr : r ∉ dist1Writes) :
    after dist1 V (no_index (Proc.devRef .tc r)) = V (Proc.devRef .tc r) :=
  after_of_writes_sub dist1 V (forall_writes_sub_of_map rfl) hr
/-- `loss1` leaves every other array as it was. -/
theorem loss1_keeps (V : Valuation τ sig (Elt F)) {r : Ref sig .tc} (hr : r ∉ loss1Writes) :
    after loss1 V (no_index (Proc.devRef .tc r)) = V (Proc.devRef .tc r) :=
  after_of_writes_sub loss1 V (forall_writes_sub_of_map rfl) hr
/-- `dist2` leaves every other array as it was. -/
theorem dist2_keeps (V : Valuation τ sig (Elt F)) {r : Ref sig .tc} (hr : r ∉ dist2Writes) :
    after dist2 V (no_index (Proc.devRef .tc r)) = V (Proc.devRef .tc r) :=
  after_of_writes_sub dist2 V (forall_writes_sub_of_map rfl) hr
/-- `loss2` leaves every other array as it was. -/
theorem loss2_keeps (V : Valuation τ sig (Elt F)) {r : Ref sig .tc} (hr : r ∉ loss2Writes) :
    after loss2 V (no_index (Proc.devRef .tc r)) = V (Proc.devRef .tc r) :=
  after_of_writes_sub loss2 V (forall_writes_sub_of_map rfl) hr
/-- `dist3` leaves every other array as it was. -/
theorem dist3_keeps (V : Valuation τ sig (Elt F)) {r : Ref sig .tc} (hr : r ∉ dist3Writes) :
    after dist3 V (no_index (Proc.devRef .tc r)) = V (Proc.devRef .tc r) :=
  after_of_writes_sub dist3 V (forall_writes_sub_of_map rfl) hr
/-- `loss3` leaves every other array as it was. -/
theorem loss3_keeps (V : Valuation τ sig (Elt F)) {r : Ref sig .tc} (hr : r ∉ loss3Writes) :
    after loss3 V (no_index (Proc.devRef .tc r)) = V (Proc.devRef .tc r) :=
  after_of_writes_sub loss3 V (forall_writes_sub_of_map rfl) hr
/-- A call of @argmin leaves every other array as it was. -/
theorem argmin_keeps (x : TRef sig ⟨S16384x256, .f32⟩) (φ : fn_argmin.Bufs) (V : Valuation τ sig (Elt F)) {r : Ref sig .tc}
    (hr : r ∉ argminWrites φ) : after (argminOps x φ) V (no_index (Proc.devRef .tc r)) = V (Proc.devRef .tc r) :=
  after_of_writes_sub _ V (forall_writes_sub_of_map rfl) hr
/-- A call of @take leaves every other array as it was. -/
theorem take_keeps (cb : TRef sig ⟨S256x64, .f32⟩) (ix : TRef sig ⟨S16384, .i32⟩) (φ : fn_take.Bufs) (V : Valuation τ sig (Elt F))
    {r : Ref sig .tc} (hr : r ∉ takeWrites φ) : after (takeOps cb ix φ) V (no_index (Proc.devRef .tc r)) = V (Proc.devRef .tc r) :=
  after_of_writes_sub _ V (forall_writes_sub_of_map rfl) hr

/-- Nothing of the program is scoped. -/
theorem scopedRefs_eq : (Finset.univ.filter fun b : Ref sig .tc => b.isScoped) = ∅ := by decide
/-- No semaphore belongs to a scope. -/
theorem scopedSems_eq : (Finset.univ.filter fun sm : SemLoc sig => sm.isScoped .tc) = ∅ := by decide

end Cert.Proof.Ref

end
-- ==== Proof.RefRun.lean ====
/-
  What the reference program leaves in its result arrays, as functions of its argument arrays (`out_eq`, `loss_eq`,
  `index_eq`), and that it runs to the end from any memory (`run_main`).
-/
module

public import proofs.«01_k».proof.Proof.RefOps
public import Idealize.ShloMosaic.Lib.StableHlo.RunRead

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The arrays of a shape, of floats and of words. -/
abbrev FArr (F : FTy → Type) (s : Shape) : Type := (⟨s, .f32⟩ : BufTy).Contents (Elt F)
/-- An array of integers. -/
abbrev IArr (F : FTy → Type) (s : Shape) : Type := (⟨s, .i32⟩ : BufTy).Contents (Elt F)

/-- A 512-wide layer with its maximum with zero, from the products and the bias. -/
def relu512 (p : FArr F S16384x512) (b : FArr F S512) : FArr F S16384x512 :=
  maximumf (addf p (broadcastInDim S16384x512 ![0, 1] bcast_S1x512_S16384x512_0_1 (broadcastInDim S1x512 ![1] bcast_S512_S1x512_1 b)))
    (broadcastInDim S16384x512 ![] bcast_S_S16384x512 (constant S_ .f32 0x00000000#32))

/-- The encoder: two layers. -/
def encode (x : FArr F S16384x768) (w1 : FArr F S768x512) (b1 : FArr F S512) (w2 : FArr F S512x256) (b2 : FArr F S256) :
    FArr F S16384x256 :=
  addf (Host.dotGeneral dot_S16384x512_S512x256_S16384x256_1_0_0_1_n_n none
      (relu512 (Host.dotGeneral dot_S16384x768_S768x512_S16384x512_1_0_0_1_n_n none x w1) b1) w2)
    (broadcastInDim S16384x256 ![0, 1] bcast_S1x256_S16384x256_0_1 (broadcastInDim S1x256 ![1] bcast_S256_S1x256_1 b2))

/-- The decoder: two layers. -/
def decode (z : FArr F S16384x256) (w1 : FArr F S256x512) (b1 : FArr F S512) (w2 : FArr F S512x768) (b2 : FArr F S768) :
    FArr F S16384x768 :=
  addf (Host.dotGeneral dot_S16384x512_S512x768_S16384x768_1_0_0_1_n_n none
      (relu512 (Host.dotGeneral dot_S16384x256_S256x512_S16384x512_1_0_0_1_n_n none z w1) b1) w2)
    (broadcastInDim S16384x768 ![0, 1] bcast_S1x768_S16384x768_0_1 (broadcastInDim S1x768 ![1] bcast_S768_S1x768_1 b2))

/-- Every row's squared distance to every vector of a codebook. -/
def dist (z : FArr F S16384x64) (cb : FArr F S256x64) : FArr F S16384x256 :=
  subf
    (addf
      (broadcastInDim S16384x256 ![0, 1] bcast_S16384x1_S16384x256_0_1 (broadcastInDim S16384x1 ![0] bcast_S16384_S16384x1_0
        (Host.reduceAdd (mulf z z) (constant S_ .f32 0x00000000#32) reducesTo_S16384x64_S16384_d1 h_S_)))
      (broadcastInDim S16384x256 ![0, 1] bcast_S1x256_S16384x256_0_1 (broadcastInDim S1x256 ![1] bcast_S256_S1x256_1
        (Host.reduceAdd (mulf cb cb) (constant S_ .f32 0x00000000#32) reducesTo_S256x64_S256_d1 h_S_))))
    (mulf (broadcastInDim S16384x256 ![] bcast_S_S16384x256 (constant S_ .f32 0x40000000#32))
      (Host.dotGeneral dot_S16384x64_S64x256_S16384x256_1_0_0_1_n_n none z
        (transpose S64x256 [1, 0] cb transposes_S256x64_S64x256_1_0)))

/-- Every row's column of the smallest entry. -/
def pick (d : FArr F S16384x256) : IArr F S16384 := fun j =>
  (Host.argReduce reducer_argmin_f32_i32 d (iotaInDim S16384x256 32 1) (constant S_ .f32 0x7F800000#32) (constantI S_ 32 0#32)
    reducesTo_S16384x256_S16384_d1 h_S_ j).2

/-- An index as @take uses it: one below zero counts from the end. -/
def wrapped (ix : IArr F S16384) : IArr F S16384x1 :=
  broadcastInDim S16384x1 ![0] bcast_S16384_S16384x1_0
    (select (cmpi .slt ix (broadcastInDim S16384 ![] bcast_S_S16384 (constantI S_ 32 0#32)))
      (addi ix (broadcastInDim S16384 ![] bcast_S_S16384 (constantI S_ 32 256#32))) ix)

/-- The codebook's vector at every row's index, and the not-a-number at an index outside the codebook. -/
def lookup (cb : FArr F S256x64) (ix : IArr F S16384) : FArr F S16384x64 :=
  select
    (broadcastInDim S16384x64 ![0] bcast_S16384_S16384x64_0
      (Host.reduce IntOp.andi
        (andi (cmpi .sge (wrapped ix) (broadcastInDim S16384x1 ![] bcast_S_S16384x1 (constantI S_ 32 0#32)))
          (cmpi .sle (wrapped ix) (broadcastInDim S16384x1 ![0, 1] bcast_S1x1_S16384x1_0_1
            (broadcastInDim S1x1 ![1] bcast_S1_S1x1_1 (constantI S1 32 255#32)))))
        (constantI S_ 1 1#1) reducesTo_S16384x1_S16384_d1 h_S_))
    (Host.gather gather_S256x64_S16384x1_S16384x64_1_0_n_n_0_1_164 cb (wrapped ix))
    (broadcastInDim S16384x64 ![] bcast_S_S16384x64 (constant S_ .f32 0x7FC00000#32))

/-- The mean of the squared differences of two arrays. -/
def meanSq (a z : FArr F S16384x64) : FArr F S_ :=
  Host.divf (Host.reduceAdd (mulf (subf a z) (subf a z)) (constant S_ .f32 0x00000000#32) reducesTo_S16384x64_S_d0_1 h_S_)
    (constant S_ .f32 0x49800000#32)

/-- One codebook's loss: the mean for the codebook and a quarter of the mean for the encoder. -/
def qloss (a z : FArr F S16384x64) : FArr F S_ :=
  addf (meanSq a z) (mulf (constant S_ .f32 0x3E800000#32) (meanSq a z))

/-- The mean of the four losses. -/
def meanLoss (l0 l1 l2 l3 : FArr F S_) : FArr F S_ :=
  Host.divf (Host.reduceAdd (concatenate S4 0 [⟨S1, broadcastInDim S1 ![] bcast_S_S1 l0⟩, ⟨S1, broadcastInDim S1 ![] bcast_S_S1 l1⟩,
      ⟨S1, broadcastInDim S1 ![] bcast_S_S1 l2⟩, ⟨S1, broadcastInDim S1 ![] bcast_S_S1 l3⟩] concatenates_S1_S1_S1_S1_S4_d0)
      (constant S_ .f32 0x00000000#32) reducesTo_S4_S_d0 h_S_)
    (constant S_ .f32 0x40800000#32)

/-- The four index vectors as the columns of one array. -/
def columns (i0 i1 i2 i3 : IArr F S16384) : IArr F S16384x4 :=
  concatenate S16384x4 1 [⟨S16384x1, broadcastInDim S16384x1 ![0] bcast_S16384_S16384x1_0 i0⟩,
    ⟨S16384x1, broadcastInDim S16384x1 ![0] bcast_S16384_S16384x1_0 i1⟩,
    ⟨S16384x1, broadcastInDim S16384x1 ![0] bcast_S16384_S16384x1_0 i2⟩,
    ⟨S16384x1, broadcastInDim S16384x1 ![0] bcast_S16384_S16384x1_0 i3⟩] concatenates_S16384x1_S16384x1_S16384x1_S16384x1_S16384x4_d1

/-- Four slices side by side. -/
def beside (a0 a1 a2 a3 : FArr F S16384x64) : FArr F S16384x256 :=
  concatenate S16384x256 1 [⟨S16384x64, a0⟩, ⟨S16384x64, a1⟩, ⟨S16384x64, a2⟩, ⟨S16384x64, a3⟩]
    concatenates_S16384x64_S16384x64_S16384x64_S16384x64_S16384x256_d1

/-- The columns of `z` that codebook `q` quantises. -/
def slice (z : FArr F S16384x256) : Fin 4 → FArr F S16384x64 :=
  ![extractStridedSlice S16384x64 ![0, 0] z slices_S16384x256_S16384x64_0_0,
    extractStridedSlice S16384x64 ![0, 64] z slices_S16384x256_S16384x64_0_64,
    extractStridedSlice S16384x64 ![0, 128] z slices_S16384x256_S16384x64_0_128,
    extractStridedSlice S16384x64 ![0, 192] z slices_S16384x256_S16384x64_0_192]

/-- Codebook `q`. -/
def book (cbs : FArr F S4x256x64) : Fin 4 → FArr F S256x64 :=
  ![shapeCast S256x64 (extractStridedSlice S1x256x64 ![0, 0, 0] cbs slices_S4x256x64_S1x256x64_0_0_0) shapeCasts_S1x256x64_S256x64,
    shapeCast S256x64 (extractStridedSlice S1x256x64 ![1, 0, 0] cbs slices_S4x256x64_S1x256x64_1_0_0) shapeCasts_S1x256x64_S256x64,
    shapeCast S256x64 (extractStridedSlice S1x256x64 ![2, 0, 0] cbs slices_S4x256x64_S1x256x64_2_0_0) shapeCasts_S1x256x64_S256x64,
    shapeCast S256x64 (extractStridedSlice S1x256x64 ![3, 0, 0] cbs slices_S4x256x64_S1x256x64_3_0_0) shapeCasts_S1x256x64_S256x64]

/-- Codebook `q`'s index for every row of `z`. -/
def qindex (z : FArr F S16384x256) (cbs : FArr F S4x256x64) (q : Fin 4) : IArr F S16384 := pick (dist (slice z q) (book cbs q))

/-- Codebook `q`'s vector for every row of `z`. -/
def qvec (z : FArr F S16384x256) (cbs : FArr F S4x256x64) (q : Fin 4) : FArr F S16384x64 := lookup (book cbs q) (qindex z cbs q)

/-- The slice that replaces codebook `q`'s columns of `z`. -/
def straight (z : FArr F S16384x256) (cbs : FArr F S4x256x64) (q : Fin 4) : FArr F S16384x64 :=
  addf (slice z q) (subf (qvec z cbs q) (slice z q))

/-- The encoder's output from the arguments' contents. -/
def zOf (V : Valuation τ sig (Elt F)) : FArr F S16384x256 :=
  encode (V (main_arg0 : DevRef τ sig)) (V (main_arg1 : DevRef τ sig)) (V (main_arg2 : DevRef τ sig)) (V (main_arg3 : DevRef τ sig))
    (V (main_arg4 : DevRef τ sig))

/-! ## The pieces, read one at a time -/

/-- After `before`, slice 0 of the encoder's output. -/
theorem before_z0 (V : Valuation τ sig (Elt F)) :
    after (before) V (no_index (Proc.devRef .tc main_v9)) = slice (zOf V) 0 := by
  unfold before enc1 reluOps enc2
  after_reads_simp
  rfl
/-- After `before`, slice 1 of the encoder's output. -/
theorem before_z1 (V : Valuation τ sig (Elt F)) :
    after (before) V (no_index (Proc.devRef .tc main_v10)) = slice (zOf V) 1 := by
  unfold before enc1 reluOps enc2
  after_reads_simp
  rfl
/-- After `before`, slice 2 of the encoder's output. -/
theorem before_z2 (V : Valuation τ sig (Elt F)) :
    after (before) V (no_index (Proc.devRef .tc main_v11)) = slice (zOf V) 2 := by
  unfold before enc1 reluOps enc2
  after_reads_simp
  rfl
/-- After `before`, slice 3 of the encoder's output. -/
theorem before_z3 (V : Valuation τ sig (Elt F)) :
    after (before) V (no_index (Proc.devRef .tc main_v12)) = slice (zOf V) 3 := by
  unfold before enc1 reluOps enc2
  after_reads_simp
  rfl

/-- Codebook 0: itself, the distances, the indices, the vectors, the loss, the slice that replaces its columns. -/
theorem book0_read (V : Valuation τ sig (Elt F)) :
    after (dist0) V (no_index (Proc.devRef .tc main_v14)) = book (V (Proc.devRef .tc main_arg5)) 0 := by
  unfold dist0
  after_reads_simp
  rfl
@[inherit_doc book0_read]
theorem dist0_read (V : Valuation τ sig (Elt F)) :
    after (dist0) V (no_index (Proc.devRef .tc main_v28)) = dist (V (Proc.devRef .tc main_v9)) (book (V (Proc.devRef .tc main_arg5)) 0) := by
  unfold dist0
  after_reads_simp
  rfl
@[inherit_doc book0_read]
theorem pick0_read (V : Valuation τ sig (Elt F)) :
    after (argminOps (.of main_v28) main_call1) V (no_index (Proc.devRef .tc main_v29)) = pick (V (Proc.devRef .tc main_v28)) := by
  unfold argminOps pick
  after_reads_simp
  simp only [TRef.ofBuf_toBuf, cast_eq]
@[inherit_doc book0_read]
theorem take0_read (V : Valuation τ sig (Elt F)) :
    after (takeOps (.of main_v14) (.of main_v29) main_call2) V (no_index (Proc.devRef .tc main_v30)) = lookup (V (Proc.devRef .tc main_v14)) (V (Proc.devRef .tc main_v29)) := by
  unfold takeOps lookup wrapped
  after_reads_simp
  simp only [TRef.ofBuf_toBuf, cast_eq]
@[inherit_doc book0_read]
theorem loss0_read (V : Valuation τ sig (Elt F)) :
    after (loss0) V (no_index (Proc.devRef .tc main_v40)) = qloss (V (Proc.devRef .tc main_v30)) (V (Proc.devRef .tc main_v9)) := by
  unfold loss0 qloss meanSq
  after_reads_simp
@[inherit_doc book0_read]
theorem straight0_read (V : Valuation τ sig (Elt F)) :
    after (loss0) V (no_index (Proc.devRef .tc main_v42)) = addf (V (Proc.devRef .tc main_v9)) (subf (V (Proc.devRef .tc main_v30)) (V (Proc.devRef .tc main_v9))) := by
  unfold loss0
  after_reads_simp

/-- Codebook 1: itself, the distances, the indices, the vectors, the loss, the slice that replaces its columns. -/
theorem book1_read (V : Valuation τ sig (Elt F)) :
    after (dist1) V (no_index (Proc.devRef .tc main_v44)) = book (V (Proc.devRef .tc main_arg5)) 1 := by
  unfold dist1
  after_reads_simp
  rfl
@[inherit_doc book1_read]
theorem dist1_read (V : Valuation τ sig (Elt F)) :
    after (dist1) V (no_index (Proc.devRef .tc main_v58)) = dist (V (Proc.devRef .tc main_v10)) (book (V (Proc.devRef .tc main_arg5)) 1) := by
  unfold dist1
  after_reads_simp
  rfl
@[inherit_doc book1_read]
theorem pick1_read (V : Valuation τ sig (Elt F)) :
    after (argminOps (.of main_v58) main_call3) V (no_index (Proc.devRef .tc main_v59)) = pick (V (Proc.devRef .tc main_v58)) := by
  unfold argminOps pick
  after_reads_simp
  simp only [TRef.ofBuf_toBuf, cast_eq]
@[inherit_doc book1_read]
theorem take1_read (V : Valuation τ sig (Elt F)) :
    after (takeOps (.of main_v44) (.of main_v59) main_call4) V (no_index (Proc.devRef .tc main_v60)) = lookup (V (Proc.devRef .tc main_v44)) (V (Proc.devRef .tc main_v59)) := by
  unfold takeOps lookup wrapped
  after_reads_simp
  simp only [TRef.ofBuf_toBuf, cast_eq]
@[inherit_doc book1_read]
theorem loss1_read (V : Valuation τ sig (Elt F)) :
    after (loss1) V (no_index (Proc.devRef .tc main_v70)) = qloss (V (Proc.devRef .tc main_v60)) (V (Proc.devRef .tc main_v10)) := by
  unfold loss1 qloss meanSq
  after_reads_simp
@[inherit_doc book1_read]
theorem straight1_read (V : Valuation τ sig (Elt F)) :
    after (loss1) V (no_index (Proc.devRef .tc main_v72)) = addf (V (Proc.devRef .tc main_v10)) (subf (V (Proc.devRef .tc main_v60)) (V (Proc.devRef .tc main_v10))) := by
  unfold loss1
  after_reads_simp

/-- Codebook 2: itself, the distances, the indices, the vectors, the loss, the slice that replaces its columns. -/
theorem book2_read (V : Valuation τ sig (Elt F)) :
    after (dist2) V (no_index (Proc.devRef .tc main_v74)) = book (V (Proc.devRef .tc main_arg5)) 2 := by
  unfold dist2
  after_reads_simp
  rfl
@[inherit_doc book2_read]
theorem dist2_read (V : Valuation τ sig (Elt F)) :
    after (dist2) V (no_index (Proc.devRef .tc main_v88)) = dist (V (Proc.devRef .tc main_v11)) (book (V (Proc.devRef .tc main_arg5)) 2) := by
  unfold dist2
  after_reads_simp
  rfl
@[inherit_doc book2_read]
theorem pick2_read (V : Valuation τ sig (Elt F)) :
    after (argminOps (.of main_v88) main_call5) V (no_index (Proc.devRef .tc main_v89)) = pick (V (Proc.devRef .tc main_v88)) := by
  unfold argminOps pick
  after_reads_simp
  simp only [TRef.ofBuf_toBuf, cast_eq]
@[inherit_doc book2_read]
theorem take2_read (V : Valuation τ sig (Elt F)) :
    after (takeOps (.of main_v74) (.of main_v89) main_call6) V (no_index (Proc.devRef .tc main_v90)) = lookup (V (Proc.devRef .tc main_v74)) (V (Proc.devRef .tc main_v89)) := by
  unfold takeOps lookup wrapped
  after_reads_simp
  simp only [TRef.ofBuf_toBuf, cast_eq]
@[inherit_doc book2_read]
theorem loss2_read (V : Valuation τ sig (Elt F)) :
    after (loss2) V (no_index (Proc.devRef .tc main_v100)) = qloss (V (Proc.devRef .tc main_v90)) (V (Proc.devRef .tc main_v11)) := by
  unfold loss2 qloss meanSq
  after_reads_simp
@[inherit_doc book2_read]
theorem straight2_read (V : Valuation τ sig (Elt F)) :
    after (loss2) V (no_index (Proc.devRef .tc main_v102)) = addf (V (Proc.devRef .tc main_v11)) (subf (V (Proc.devRef .tc main_v90)) (V (Proc.devRef .tc main_v11))) := by
  unfold loss2
  after_reads_simp

/-- Codebook 3: itself, the distances, the indices, the vectors, the loss, the slice that replaces its columns. -/
theorem book3_read (V : Valuation τ sig (Elt F)) :
    after (dist3) V (no_index (Proc.devRef .tc main_v104)) = book (V (Proc.devRef .tc main_arg5)) 3 := by
  unfold dist3
  after_reads_simp
  rfl
@[inherit_doc book3_read]
theorem dist3_read (V : Valuation τ sig (Elt F)) :
    after (dist3) V (no_index (Proc.devRef .tc main_v118)) = dist (V (Proc.devRef .tc main_v12)) (book (V (Proc.devRef .tc main_arg5)) 3) := by
  unfold dist3
  after_reads_simp
  rfl
@[inherit_doc book3_read]
theorem pick3_read (V : Valuation τ sig (Elt F)) :
    after (argminOps (.of main_v118) main_call7) V (no_index (Proc.devRef .tc main_v119)) = pick (V (Proc.devRef .tc main_v118)) := by
  unfold argminOps pick
  after_reads_simp
  simp only [TRef.ofBuf_toBuf, cast_eq]
@[inherit_doc book3_read]
theorem take3_read (V : Valuation τ sig (Elt F)) :
    after (takeOps (.of main_v104) (.of main_v119) main_call8) V (no_index (Proc.devRef .tc main_v120)) = lookup (V (Proc.devRef .tc main_v104)) (V (Proc.devRef .tc main_v119)) := by
  unfold takeOps lookup wrapped
  after_reads_simp
  simp only [TRef.ofBuf_toBuf, cast_eq]
@[inherit_doc book3_read]
theorem loss3_read (V : Valuation τ sig (Elt F)) :
    after (loss3) V (no_index (Proc.devRef .tc main_v130)) = qloss (V (Proc.devRef .tc main_v120)) (V (Proc.devRef .tc main_v12)) := by
  unfold loss3 qloss meanSq
  after_reads_simp
@[inherit_doc book3_read]
theorem straight3_read (V : Valuation τ sig (Elt F)) :
    after (loss3) V (no_index (Proc.devRef .tc main_v132)) = addf (V (Proc.devRef .tc main_v12)) (subf (V (Proc.devRef .tc main_v120)) (V (Proc.devRef .tc main_v12))) := by
  unfold loss3
  after_reads_simp

set_option maxHeartbeats 1000000 in
/-- After `behind`, the reconstruction; the loss; the indices. -/
theorem behind_out (V : Valuation τ sig (Elt F)) :
    after behind V (no_index (Proc.devRef .tc main_v154)) = decode (beside (V (Proc.devRef .tc main_v42)) (V (Proc.devRef .tc main_v72)) (V (Proc.devRef .tc main_v102)) (V (Proc.devRef .tc main_v132)))
      (V (Proc.devRef .tc main_arg6)) (V (Proc.devRef .tc main_arg7)) (V (Proc.devRef .tc main_arg8)) (V (Proc.devRef .tc main_arg9)) := by
  unfold behind finish dec1 reluOps dec2
  after_reads_simp
  rfl
@[inherit_doc behind_out]
theorem behind_loss (V : Valuation τ sig (Elt F)) :
    after behind V (no_index (Proc.devRef .tc main_v140)) = meanLoss (V (Proc.devRef .tc main_v40)) (V (Proc.devRef .tc main_v70)) (V (Proc.devRef .tc main_v100)) (V (Proc.devRef .tc main_v130)) := by
  unfold behind finish dec1 reluOps dec2
  after_reads_simp
  rfl
@[inherit_doc behind_out]
theorem behind_index (V : Valuation τ sig (Elt F)) :
    after behind V (no_index (Proc.devRef .tc main_v145)) = columns (V (Proc.devRef .tc main_v29)) (V (Proc.devRef .tc main_v59)) (V (Proc.devRef .tc main_v89)) (V (Proc.devRef .tc main_v119)) := by
  unfold behind finish dec1 reluOps dec2
  after_reads_simp
  rfl

/-! ## The whole line -/

/-- Running one line after another. -/
theorem after_both (l k : List (HloOp τ sig (Elt F))) (V : Valuation τ sig (Elt F)) : after (l ++ k) V = after k (after l V) := by
  induction l generalizing V with
  | nil => rfl
  | cons op l ih => exact ih _

/-- The reconstruction that the line leaves. -/
theorem out_eq (V : Valuation τ sig (Elt F)) :
    after ops V (main_v154 : DevRef τ sig)
      = decode (beside (straight (zOf V) (V (main_arg5 : DevRef τ sig)) 0) (straight (zOf V) (V (main_arg5 : DevRef τ sig)) 1)
          (straight (zOf V) (V (main_arg5 : DevRef τ sig)) 2) (straight (zOf V) (V (main_arg5 : DevRef τ sig)) 3))
        (V (main_arg6 : DevRef τ sig)) (V (main_arg7 : DevRef τ sig)) (V (main_arg8 : DevRef τ sig)) (V (main_arg9 : DevRef τ sig)) := by
  simp (disch := decide) only [ops, level0, level1, level2, level3, after_both, behind_out,
    before_z0, book0_read, dist0_read, pick0_read, take0_read, loss0_read, straight0_read, before_z1, book1_read, dist1_read, pick1_read, take1_read, loss1_read, straight1_read, before_z2, book2_read, dist2_read, pick2_read, take2_read, loss2_read, straight2_read, before_z3, book3_read, dist3_read, pick3_read, take3_read, loss3_read, straight3_read,
    before_keeps, dist0_keeps, loss0_keeps, dist1_keeps, loss1_keeps, dist2_keeps, loss2_keeps, dist3_keeps, loss3_keeps, behind_keeps, argmin_keeps, take_keeps]
  rfl

/-- The loss that the line leaves. -/
theorem loss_eq (V : Valuation τ sig (Elt F)) :
    after ops V (main_v140 : DevRef τ sig)
      = meanLoss (qloss (qvec (zOf V) (V (main_arg5 : DevRef τ sig)) 0) (slice (zOf V) 0))
          (qloss (qvec (zOf V) (V (main_arg5 : DevRef τ sig)) 1) (slice (zOf V) 1))
          (qloss (qvec (zOf V) (V (main_arg5 : DevRef τ sig)) 2) (slice (zOf V) 2))
          (qloss (qvec (zOf V) (V (main_arg5 : DevRef τ sig)) 3) (slice (zOf V) 3)) := by
  simp (disch := decide) only [ops, level0, level1, level2, level3, after_both, behind_loss,
    before_z0, book0_read, dist0_read, pick0_read, take0_read, loss0_read, straight0_read, before_z1, book1_read, dist1_read, pick1_read, take1_read, loss1_read, straight1_read, before_z2, book2_read, dist2_read, pick2_read, take2_read, loss2_read, straight2_read, before_z3, book3_read, dist3_read, pick3_read, take3_read, loss3_read, straight3_read,
    before_keeps, dist0_keeps, loss0_keeps, dist1_keeps, loss1_keeps, dist2_keeps, loss2_keeps, dist3_keeps, loss3_keeps, behind_keeps, argmin_keeps, take_keeps]
  rfl

/-- The indices that the line leaves. -/
theorem index_eq (V : Valuation τ sig (Elt F)) :
    after ops V (main_v145 : DevRef τ sig)
      = columns (qindex (zOf V) (V (main_arg5 : DevRef τ sig)) 0) (qindex (zOf V) (V (main_arg5 : DevRef τ sig)) 1)
          (qindex (zOf V) (V (main_arg5 : DevRef τ sig)) 2) (qindex (zOf V) (V (main_arg5 : DevRef τ sig)) 3) := by
  simp (disch := decide) only [ops, level0, level1, level2, level3, after_both, behind_index,
    before_z0, book0_read, dist0_read, pick0_read, take0_read, loss0_read, straight0_read, before_z1, book1_read, dist1_read, pick1_read, take1_read, loss1_read, straight1_read, before_z2, book2_read, dist2_read, pick2_read, take2_read, loss2_read, straight2_read, before_z3, book3_read, dist3_read, pick3_read, take3_read, loss3_read, straight3_read,
    before_keeps, dist0_keeps, loss0_keeps, dist1_keeps, loss1_keeps, dist2_keeps, loss2_keeps, dist3_keeps, loss3_keeps, behind_keeps, argmin_keeps, take_keeps]
  rfl

/-- Whether a reference is one of the ten arguments. -/
def args : List (Ref sig .tc) :=
  [main_arg0, main_arg1, main_arg2, main_arg3, main_arg4, main_arg5, main_arg6, main_arg7, main_arg8, main_arg9]

/-- The line writes none of the arguments. -/
theorem arg_eq (V : Valuation τ sig (Elt F)) (r : Ref sig .tc) (hr : r ∈ args) :
    after ops V (r : DevRef τ sig) = V (r : DevRef τ sig) := by
  simp only [args, List.mem_cons, List.not_mem_nil, or_false] at hr
  rcases hr with rfl | rfl | rfl | rfl | rfl | rfl | rfl | rfl | rfl | rfl <;>
    simp (disch := decide) only [ops, level0, level1, level2, level3, after_both, before_keeps, dist0_keeps, loss0_keeps, dist1_keeps, loss1_keeps, dist2_keeps, loss2_keeps, dist3_keeps, loss3_keeps, behind_keeps, argmin_keeps, take_keeps]

/-- From any memory @main runs to the end, and every array then holds what the line leaves in it. -/
theorem run_main (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    fun _ => List.forall_iff_forall_mem.mp ops_fresh

end Cert.Proof.Ref

end
-- ==== Proof.Spec.lean ====
/-
  The mathematics of the two programs, one row at a time: a row of the input goes through two layers to 256 numbers, four
  slices of 64 of which are each replaced by the nearest vector of a codebook of 256 vectors, and through two layers back.
-/
module

public import Mathlib.Data.EReal.Inv
public import Mathlib.Algebra.BigOperators.Fin

@[expose] public section

noncomputable section

namespace Cert.Proof.Spec

/-- A layer: the products of a row with the columns of `w`, plus `b`. -/
def affine {K N : Nat} (w : Fin K → Fin N → EReal) (b : Fin N → EReal) (x : Fin K → EReal) (n : Fin N) : EReal :=
  (∑ k, x k * w k n) + b n

/-- A layer and the maximum with zero. -/
def hidden {K N : Nat} (w : Fin K → Fin N → EReal) (b : Fin N → EReal) (x : Fin K → EReal) (n : Fin N) : EReal :=
  max (affine w b x n) 0

/-- The squared distance of `z` to vector `n` of a codebook, multiplied out. -/
def sqDist (cb : Fin 256 → Fin 64 → EReal) (z : Fin 64 → EReal) (n : Fin 256) : EReal :=
  (∑ e, z e * z e) + (∑ e, cb n e * cb n e) - 2 * ∑ e, z e * cb n e

/-- `i` is the first of the places where `d` is smallest. -/
def IsFirst (d : Fin 256 → EReal) (i : Fin 256) : Prop := ∀ n, d i < d n ∨ (d i = d n ∧ i ≤ n)

/-- There is a first place where `d` is smallest. -/
theorem exists_first (d : Fin 256 → EReal) : ∃ i, IsFirst d i := by
  obtain ⟨a, -, ha⟩ := Finset.exists_min_image Finset.univ d ⟨0, Finset.mem_univ _⟩
  obtain ⟨i, hi, hmin⟩ := Finset.exists_min_image (Finset.univ.filter fun i => d i = d a) id ⟨a, by simp⟩
  have hia : d i = d a := (Finset.mem_filter.mp hi).2
  refine ⟨i, fun n => ?_⟩
  rcases (ha n (Finset.mem_univ _)).lt_or_eq with h | h
  · exact Or.inl (hia ▸ h)
  · exact Or.inr ⟨hia.trans h, hmin n (by simp [h])⟩

/-- There is only one. -/
theorem first_unique {d : Fin 256 → EReal} {i j : Fin 256} (hi : IsFirst d i) (hj : IsFirst d j) : i = j := by
  rcases hi j with h | ⟨h, h'⟩ <;> rcases hj i with k | ⟨k, k'⟩
  · exact absurd h k.asymm
  · exact absurd h (k ▸ lt_irrefl _)
  · exact absurd k (h ▸ lt_irrefl _)
  · exact le_antisymm h' k'

/-- The first place where `d` is smallest. -/
def first (d : Fin 256 → EReal) : Fin 256 := (exists_first d).choose

/-- The first least column is one. -/
theorem first_spec (d : Fin 256 → EReal) : IsFirst d (first d) := (exists_first d).choose_spec

/-- Column `e` of slice `q`, as a column of the whole row. -/
def col (q : Fin 4) (e : Fin 64) : Fin 256 := ⟨64 * q.val + e.val, by omega⟩

/-- Slice `q` of a row. -/
def part (z : Fin 256 → EReal) (q : Fin 4) (e : Fin 64) : EReal := z (col q e)

/-- The place of the nearest vector of codebook `q`. -/
def near (cb : Fin 4 → Fin 256 → Fin 64 → EReal) (z : Fin 256 → EReal) (q : Fin 4) : Fin 256 := first (sqDist (cb q) (part z q))

/-- The nearest vector's difference to the slice. -/
def gap (cb : Fin 4 → Fin 256 → Fin 64 → EReal) (z : Fin 256 → EReal) (q : Fin 4) (e : Fin 64) : EReal :=
  cb q (near cb z q) e - part z q e

/-- The row with every slice replaced by its nearest vector, as the slice plus the difference. -/
def snap (cb : Fin 4 → Fin 256 → Fin 64 → EReal) (z : Fin 256 → EReal) (c : Fin 256) : EReal :=
  z c + gap cb z ⟨c.val / 64, by omega⟩ ⟨c.val % 64, by omega⟩

/-- The sum of the squared differences of slice `q`. -/
def err (cb : Fin 4 → Fin 256 → Fin 64 → EReal) (z : Fin 256 → EReal) (q : Fin 4) : EReal :=
  ∑ e, gap cb z q e * gap cb z q e

/-- A column of a slice is replaced by its own vector's entry. -/
theorem snap_col (cb : Fin 4 → Fin 256 → Fin 64 → EReal) (z : Fin 256 → EReal) (q : Fin 4) (e : Fin 64) :
    snap cb z (col q e) = z (col q e) + gap cb z q e := by
  have hq : (⟨(col q e).val / 64, by omega⟩ : Fin 4) = q := Fin.ext (by simp only [col]; omega)
  have he : (⟨(col q e).val % 64, by omega⟩ : Fin 64) = e := Fin.ext (by simp only [col]; omega)
  unfold snap
  rw [hq, he]

/-- A sum of squared differences as one codebook's loss: its mean and a quarter of its mean. -/
def weigh (s : EReal) : EReal :=
  s * ((1 / 1048576 : ℝ) : EReal) + ((1 / 4 : ℝ) : EReal) * (s * ((1 / 1048576 : ℝ) : EReal))

/-- Which is one multiple of it. -/
theorem weigh_eq (s : EReal) : weigh s = s * ((5 / 4194304 : ℝ) : EReal) := by
  unfold weigh
  generalize hu : s * ((1 / 1048576 : ℝ) : EReal) = u
  have h : u + ((1 / 4 : ℝ) : EReal) * u = u * ((5 / 4 : ℝ) : EReal) := by
    have e : ((5 / 4 : ℝ) : EReal) = 1 + ((1 / 4 : ℝ) : EReal) := by
      rw [← EReal.coe_one, ← EReal.coe_add]; norm_num
    rw [e, EReal.left_distrib_of_nonneg zero_le_one (by exact_mod_cast (by norm_num : (0 : ℝ) ≤ 1 / 4)), mul_one, mul_comm u]
  rw [h, ← hu, mul_assoc, ← EReal.coe_mul]
  norm_num

/-- The mean of the four losses is one multiple of the sum of all squared differences. -/
theorem mean_weigh (s : Fin 4 → EReal) :
    (∑ q, weigh (s q)) * ((1 / 4 : ℝ) : EReal) = (∑ q, s q) * ((5 / 16777216 : ℝ) : EReal) := by
  simp only [weigh_eq]
  have hs : ∀ t : Finset (Fin 4), ∑ q ∈ t, s q * ((5 / 4194304 : ℝ) : EReal) = (∑ q ∈ t, s q) * ((5 / 4194304 : ℝ) : EReal) := by
    intro t
    induction t using Finset.induction_on with
    | empty => simp
    | insert a t ha ih =>
      rw [Finset.sum_insert ha, Finset.sum_insert ha, ih,
        EReal.right_distrib_of_nonneg_of_ne_top (by exact_mod_cast (by norm_num : (0 : ℝ) ≤ 5 / 4194304)) (EReal.coe_ne_top _)]
  rw [hs, mul_assoc, ← EReal.coe_mul]
  norm_num

/-- The weights of the encoder, the codebooks and the weights of the decoder. -/
structure Weights where
  w1 : Fin 768 → Fin 512 → EReal
  b1 : Fin 512 → EReal
  w2 : Fin 512 → Fin 256 → EReal
  b2 : Fin 256 → EReal
  cb : Fin 4 → Fin 256 → Fin 64 → EReal
  dw1 : Fin 256 → Fin 512 → EReal
  db1 : Fin 512 → EReal
  dw2 : Fin 512 → Fin 768 → EReal
  db2 : Fin 768 → EReal

variable (W : Weights)

/-- The encoder's row. -/
def Weights.latent (x : Fin 768 → EReal) : Fin 256 → EReal := affine W.w2 W.b2 (hidden W.w1 W.b1 x)

/-- The decoder's row from the encoder's. -/
def Weights.rebuilt (z : Fin 256 → EReal) : Fin 768 → EReal := affine W.dw2 W.db2 (hidden W.dw1 W.db1 (snap W.cb z))

end Cert.Proof.Spec

end
-- ==== Proof.RefValue.lean ====
/-
  The reference's values, read at an index: every row of its results is the mathematics of Spec.lean of that row.
-/
module

public import proofs.«01_k».proof.Proof.RefRun
public import proofs.«01_k».proof.Proof.Spec
public import Idealize.ShloMosaic.Lib.Pointwise
public import Idealize.ShloMosaic.Lib.Routing.Ops
public import Idealize.ShloMosaic.Lib.WordCmp

@[expose] public section

set_option maxRecDepth 16384

noncomputable section

namespace Cert.Proof.Ref

open Cert.ReferenceIdeal Cert.ReferenceIdeal.Gen
open Idealize.ShloMosaic Idealize.ShloMosaic.StableHlo Idealize.ShloMosaic.TcCoe

/-- The encoder's output at row `r`. -/
theorem encode_at (x : FArr Ideal S16384x768) (w1 : FArr Ideal S768x512) (b1 : FArr Ideal S512) (w2 : FArr Ideal S512x256)
    (b2 : FArr Ideal S256) (r : Fin 16384) (c : Fin 256) :
    encode x w1 b1 w2 b2 (ix2 r c)
      = Spec.affine (fun k n => w2 (ix2 k n)) (fun n => b2 (ix1 n))
          (Spec.hidden (fun k n => w1 (ix2 k n)) (fun n => b1 (ix1 n)) fun k => x (ix2 r k)) c := by
  pointwise [encode, relu512]
  rfl

/-- The decoder's output at row `r`. -/
theorem decode_at (x : FArr Ideal S16384x256) (w1 : FArr Ideal S256x512) (b1 : FArr Ideal S512) (w2 : FArr Ideal S512x768)
    (b2 : FArr Ideal S768) (r : Fin 16384) (c : Fin 768) :
    decode x w1 b1 w2 b2 (ix2 r c)
      = Spec.affine (fun k n => w2 (ix2 k n)) (fun n => b2 (ix1 n))
          (Spec.hidden (fun k n => w1 (ix2 k n)) (fun n => b1 (ix1 n)) fun k => x (ix2 r k)) c := by
  pointwise [decode, relu512]
  rfl

/-- The word of the number two. -/
theorem two_eq : Ideal.ofBits FTy.f32 1073741824#32 = 2 := by
  simp [Ideal.ofBits, Ideal.ieee, -EReal.coe_mul]; norm_num
  rfl

/-- The word of plus infinity. -/
theorem top_eq : Ideal.ofBits FTy.f32 0x7F800000#32 = ⊤ := by
  simp [Ideal.ofBits, Ideal.ieee]

/-- The distances at row `r`. -/
theorem dist_at (z : FArr Ideal S16384x64) (cb : FArr Ideal S256x64) (r : Fin 16384) (n : Fin 256) :
    dist z cb (ix2 r n) = Spec.sqDist (fun n e => cb (ix2 n e)) (fun e => z (ix2 r e)) n := by
  pointwise [dist]
  rw [two_eq]
  rfl

/-- Slice `q` at row `r`. -/
theorem slice_at (z : FArr Ideal S16384x256) (q : Fin 4) (r : Fin 16384) (n : Fin 64) :
    slice z q (ix2 r n) = z (ix2 r (Spec.col q n)) := by
  fin_cases q <;> pointwise [slice] <;> exact congrArg (fun c => z (ix2 r c)) (Fin.ext (by simp [Spec.col]; try omega))

/-- Vector `r` of codebook `q`. -/
theorem book_at (z : FArr Ideal S4x256x64) (q : Fin 4) (r : Fin 256) (n : Fin 64) :
    book z q (ix2 r n) = z (ix3 q r n) := by
  fin_cases q <;> pointwise [book]

/-! ### The smallest entry's column -/

/-- A pair comes before another: its value is smaller, or its value is equal and its index no larger. -/
def Before (a b : EReal × BitVec 32) : Prop := a.1 < b.1 ∨ (a.1 = b.1 ∧ a.2.toInt ≤ b.2.toInt)

/-- A pair comes before itself. -/
theorem Before.refl (a : EReal × BitVec 32) : Before a a := Or.inr ⟨rfl, le_refl _⟩

/-- Coming before is transitive. -/
theorem Before.trans {a b c : EReal × BitVec 32} (h : Before a b) (k : Before b c) : Before a c := by
  rcases h with h | ⟨h, h'⟩ <;> rcases k with k | ⟨k, k'⟩
  · exact Or.inl (h.trans k)
  · exact Or.inl (k ▸ h)
  · exact Or.inl (h ▸ k)
  · exact Or.inr ⟨h.trans k, h'.trans k'⟩

/-- The reducer keeps one of its two pairs, and it comes before both. -/
theorem reducer_spec (a b : EReal × BitVec 32) :
    (reducer_argmin_f32_i32 (F := Ideal) a b = a ∧ Before a b) ∨ (reducer_argmin_f32_i32 (F := Ideal) a b = b ∧ Before b a) := by
  obtain ⟨a1, a2⟩ := a
  obtain ⟨b1, b2⟩ := b
  simp only [reducer_argmin_f32_i32, Before, Ideal.cmpf_def, Ideal.cmp, WordCmp.cmpi_slt_eq, WordCmp.ori_ofBool, WordCmp.andi_ofBool,
    Scalar.select, WordCmp.ofBool_eq_one_iff, Bool.or_eq_true, Bool.and_eq_true, decide_eq_true_eq, ne_eq, not_true_eq_false, or_false]
  by_cases h : a1 < b1
  · left; simp [h]
  · by_cases h2 : a1 = b1
    · subst h2
      by_cases h3 : a2.toInt < b2.toInt
      · left; simp [h3, h3.le]
      · right; simp [h3, not_lt.mp h3]
    · right; simp [h, h2, lt_of_le_of_ne (not_lt.mp h) (Ne.symm h2)]

/-- Folding the reducer over a list leaves one of the pairs, and it comes before all of them. -/
theorem fold_spec (l : List (EReal × BitVec 32)) (a : EReal × BitVec 32) :
    l.foldl (reducer_argmin_f32_i32 (F := Ideal)) a ∈ a :: l
      ∧ ∀ p ∈ a :: l, Before (l.foldl (reducer_argmin_f32_i32 (F := Ideal)) a) p := by
  induction l generalizing a with
  | nil => exact ⟨List.mem_singleton.mpr rfl, fun p hp => by rw [List.mem_singleton.mp hp]; exact Before.refl _⟩
  | cons b l ih =>
    obtain ⟨hm, hb⟩ := ih (reducer_argmin_f32_i32 (F := Ideal) a b)
    rw [List.foldl_cons]
    have h0 := hb _ List.mem_cons_self
    have hl := fun p hp => hb p (List.mem_cons_of_mem _ hp)
    generalize hr : l.foldl (reducer_argmin_f32_i32 (F := Ideal)) (reducer_argmin_f32_i32 (F := Ideal) a b) = res at *
    rcases reducer_spec a b with ⟨h, h'⟩ | ⟨h, h'⟩
    · rw [h] at hm h0
      refine ⟨?_, fun p hp => ?_⟩
      · rcases List.mem_cons.mp hm with hm | hm
        · exact hm ▸ List.mem_cons_self
        · exact List.mem_cons_of_mem _ (List.mem_cons_of_mem _ hm)
      · rcases List.mem_cons.mp hp with rfl | hp
        · exact h0
        · rcases List.mem_cons.mp hp with rfl | hp
          · exact h0.trans h'
          · exact hl _ hp
    · rw [h] at hm h0
      refine ⟨List.mem_cons_of_mem _ hm, fun p hp => ?_⟩
      rcases List.mem_cons.mp hp with rfl | hp
      · exact h0.trans h'
      · rcases List.mem_cons.mp hp with rfl | hp
        · exact h0
        · exact hl _ hp

/-- The index words of columns compare as the columns do. -/
theorem toInt_col (n : Fin 256) : (BitVec.ofNat 32 n.val).toInt = (n.val : Int) :=
  WordCmp.toInt_ofNat_of_lt (lt_trans n.isLt (by norm_num))

/-- The pairs the fold of row `r` runs over: every column's entry with the column's number. -/
theorem mem_fiber (d : FArr Ideal S16384x256) (r : Fin 16384) (p : EReal × BitVec 32) :
    p ∈ Host.argReduceFiber (α := EReal) d (iotaInDim S16384x256 32 1) reducesTo_S16384x256_S16384_d1 (ix1 r)
      ↔ ∃ k : Fin 256, p = (d (ix2 r k), BitVec.ofNat 32 k.val) := by
  unfold Host.argReduceFiber
  simp only [List.mem_map, List.mem_filter, List.mem_finRange, true_and, decide_eq_true_eq]
  constructor
  · rintro ⟨n, hn, rfl⟩
    obtain ⟨k, hk⟩ := (Shape.ReducesTo.fiber_r2_a1 reducesTo_S16384x256_S16384_d1 (ix1 r) _).mp hn
    exact ⟨k, by rw [← hk]; rfl⟩
  · rintro ⟨k, rfl⟩
    refine ⟨S16384x256.rowMajor (ix2 r k), ?_, ?_⟩
    · rw [Equiv.symm_apply_apply]
      exact (Shape.ReducesTo.fiber_r2_a1 reducesTo_S16384x256_S16384_d1 (ix1 r) _).mpr ⟨k, rfl⟩
    · rw [Equiv.symm_apply_apply]; rfl

/-- A list whose members are the columns' pairs folds to the first column of the smallest entry. -/
theorem fold_first (d : Fin 256 → EReal) (l : List (EReal × BitVec 32))
    (hl : ∀ p, p ∈ l ↔ ∃ k : Fin 256, p = (d k, BitVec.ofNat 32 k.val)) :
    (l.foldl (reducer_argmin_f32_i32 (F := Ideal)) (⊤, 0#32)).2 = BitVec.ofNat 32 (Spec.first d).val := by
  obtain ⟨hm, hb⟩ := fold_spec l (⊤, 0#32)
  have hk : ∀ k : Fin 256, Before (l.foldl (reducer_argmin_f32_i32 (F := Ideal)) (⊤, 0#32)) (d k, BitVec.ofNat 32 k.val) :=
    fun k => hb _ (List.mem_cons_of_mem _ ((hl _).mpr ⟨k, rfl⟩))
  rcases List.mem_cons.mp hm with h | h
  · rw [h] at hk ⊢
    have ht : ∀ k, d k = ⊤ := fun k => by
      rcases hk k with h' | ⟨h', -⟩
      · exact absurd h' not_top_lt
      · exact h'.symm
    have h0 : Spec.IsFirst d 0 := fun n => Or.inr ⟨(ht 0).trans (ht n).symm, Fin.zero_le _⟩
    rw [Spec.first_unique (Spec.first_spec d) h0]
    rfl
  · obtain ⟨k, hk'⟩ := (hl _).mp h
    rw [hk'] at hk ⊢
    have h0 : Spec.IsFirst d k := fun n => by
      rcases hk n with h' | ⟨h', h''⟩
      · exact Or.inl h'
      · refine Or.inr ⟨h', ?_⟩
        simp only [toInt_col] at h''
        exact Fin.le_def.mpr (by omega)
    rw [Spec.first_unique (Spec.first_spec d) h0]

/-- A two-array reduction's second result at an index is the fold of that index's pairs. -/
theorem second_fold {s t u : Shape} {axes : List (Fin s.rank)} (f : Ideal .f32 × BitVec 32 → Ideal .f32 × BitVec 32 → Ideal .f32 × BitVec 32)
    (x : FVec Ideal s .f32) (y : IVec s 32) (ix : FVec Ideal u .f32) (iy : IVec u 32) (h : s.ReducesTo axes t) (hu : 0 < u.numel)
    (j : t.Idx) : (Host.argReduce f x y ix iy h hu j).2
      = ((Host.argReduceFiber x y h j).foldl f (ix (Shape.Idx.first hu), iy (Shape.Idx.first hu))).2 := by
  rw [Ideal.argReduce_eq_reduce2, Host.reduce2_eq_foldl_fiber]

/-- An array of one word, at an index. -/
theorem constantI_at (w : BitVec 32) (j : S_.Idx) : constantI S_ 32 w j = w := rfl

/-- The array of plus infinity, at an index. -/
theorem top_at (j : S_.Idx) : (constant S_ .f32 0x7F800000#32 : FVec Ideal S_ .f32) j = (⊤ : EReal) := by
  pointwise []
  exact top_eq

/-- The reference's indices as the second results of the reduction. -/
theorem pick_eq (d : FArr Ideal S16384x256) :
    pick d = fun j => (Host.argReduce (reducer_argmin_f32_i32 (F := Ideal)) d (iotaInDim S16384x256 32 1)
      (constant S_ .f32 0x7F800000#32) (constantI S_ 32 0#32) reducesTo_S16384x256_S16384_d1 h_S_ j).2 := rfl

/-- The reference's index at row `r` is the first column of the smallest entry. -/
theorem pick_at (d : FArr Ideal S16384x256) (r : Fin 16384) :
    pick d (ix1 r) = BitVec.ofNat 32 (Spec.first fun n => d (ix2 r n)).val := by
  have h := congrFun (pick_eq d) (ix1 r)
  simp only [second_fold] at h
  rw [h, top_at, constantI_at]
  exact fold_first _ _ (mem_fiber d r)

/-! ### A row's vector -/

/-- An index of the codebook is left as it is. -/
theorem wrapped_at (i : IArr Ideal S16384) (r : Fin 16384) (n : Fin 256) (h : i (ix1 r) = BitVec.ofNat 32 n.val) (u : Fin 1) :
    wrapped (F := Ideal) i (ix2 r u) = BitVec.ofNat 32 n.val := by
  pointwise [wrapped]
  rw [h]
  have : IntOp.cmpi .slt (BitVec.ofNat 32 n.val) 0#32 = 0#1 := by
    rw [WordCmp.cmpi_slt_eq, WordCmp.ofBool_decide_eq_zero_iff, toInt_col]
    simp
  rw [this]
  rfl

/-- At an index of the codebook, the codebook's vector. -/
theorem lookup_at (cb : FArr Ideal S256x64) (i : IArr Ideal S16384) (r : Fin 16384) (e : Fin 64) (n : Fin 256)
    (h : i (ix1 r) = BitVec.ofNat 32 n.val) : lookup cb i (ix2 r e) = cb (ix2 n e) := by
  have hw := wrapped_at i r n h
  have hg : Host.gather gather_S256x64_S16384x1_S16384x64_1_0_n_n_0_1_164 cb (wrapped (F := Ideal) i) (ix2 r e) = cb (ix2 n e) :=
    Routing.gather_row _ rfl rfl rfl rfl rfl cb _ r e n (hw 0) (by norm_num)
  have h1 : IntOp.cmpi .sge (BitVec.ofNat 32 n.val) 0#32 = 1#1 := by
    rw [WordCmp.cmpi_sge_eq, WordCmp.ofBool_decide_eq_one_iff, toInt_col]
    simp
  have h2 : IntOp.cmpi .sle (BitVec.ofNat 32 n.val) 255#32 = 1#1 := by
    rw [WordCmp.cmpi_sle_eq, WordCmp.ofBool_decide_eq_one_iff, toInt_col]
    have := n.isLt
    show (n.val : Int) ≤ 255
    omega
  unfold lookup
  generalize wrapped (F := Ideal) i = w at *
  pointwise []
  rw [hg]
  simp only [hw, h1, h2]
  simp [IntOp.andi, Scalar.select]

/-! ### The losses -/

/-- The word of two to the twentieth. -/
theorem count_eq : Ideal.ofBits FTy.f32 1233125376#32 = ((1048576 : ℝ) : EReal) := by
  simp [Ideal.ofBits, Ideal.ieee, -EReal.coe_mul]; norm_num

/-- The word of a quarter. -/
theorem quarter_eq : Ideal.ofBits FTy.f32 1048576000#32 = ((1 / 4 : ℝ) : EReal) := by
  simp [Ideal.ofBits, Ideal.ieee, -EReal.coe_mul]; norm_num

/-- The word of the number four. -/
theorem four_eq : Ideal.ofBits FTy.f32 1082130432#32 = ((4 : ℝ) : EReal) := by
  simp [Ideal.ofBits, Ideal.ieee, -EReal.coe_mul]; norm_num

/-- One codebook's loss from the sum of the squared differences. -/
theorem qloss_at (a z : FArr Ideal S16384x64) (j : S_.Idx) :
    qloss a z j = Spec.weigh (∑ r : Fin 16384, ∑ e : Fin 64, (a (ix2 r e) - z (ix2 r e)) * (a (ix2 r e) - z (ix2 r e))) := by
  pointwise [qloss, meanSq]
  rw [count_eq, quarter_eq, Ideal.div_coe (by norm_num)]
  rfl

/-- The mean of the four losses. -/
theorem meanLoss_at (a b c d : FArr Ideal S_) (j : S_.Idx) :
    meanLoss a b c d j = (∑ q : Fin 4, (![a ix0, b ix0, c ix0, d ix0] : Fin 4 → EReal) q) * ((1 / 4 : ℝ) : EReal) := by
  pointwise [meanLoss]
  rw [four_eq, Ideal.div_coe (by norm_num)]
  congr 1

/-! ### The pieces together -/

/-- The codebooks of an array. -/
def cbOf (cbs : FArr Ideal S4x256x64) (q : Fin 4) (n : Fin 256) (e : Fin 64) : EReal := cbs (ix3 q n e)

/-- Row `r` of the encoder's output. -/
def row (z : FArr Ideal S16384x256) (r : Fin 16384) (c : Fin 256) : EReal := z (ix2 r c)

/-- The index of codebook `q` at row `r`. -/
theorem qindex_at (z : FArr Ideal S16384x256) (cbs : FArr Ideal S4x256x64) (q : Fin 4) (r : Fin 16384) :
    qindex z cbs q (ix1 r) = BitVec.ofNat 32 (Spec.near (cbOf cbs) (row z r) q).val := by
  unfold qindex
  rw [pick_at]
  simp only [dist_at, slice_at, book_at]
  rfl

/-- The vector of codebook `q` at row `r`. -/
theorem qvec_at (z : FArr Ideal S16384x256) (cbs : FArr Ideal S4x256x64) (q : Fin 4) (r : Fin 16384) (e : Fin 64) :
    qvec z cbs q (ix2 r e) = cbOf cbs q (Spec.near (cbOf cbs) (row z r) q) e := by
  unfold qvec
  rw [lookup_at _ _ r e _ (qindex_at z cbs q r), book_at]
  rfl

/-- What replaces slice `q` at row `r`. -/
theorem straight_at (z : FArr Ideal S16384x256) (cbs : FArr Ideal S4x256x64) (q : Fin 4) (r : Fin 16384) (e : Fin 64) :
    straight z cbs q (ix2 r e) = row z r (Spec.col q e) + Spec.gap (cbOf cbs) (row z r) q e := by
  pointwise [straight]
  rw [slice_at, qvec_at]
  rfl

/-- The four slices side by side at row `r`. -/
theorem beside_at (z : FArr Ideal S16384x256) (cbs : FArr Ideal S4x256x64) (r : Fin 16384) (c : Fin 256) :
    beside (straight z cbs 0) (straight z cbs 1) (straight z cbs 2) (straight z cbs 3) (ix2 r c)
      = Spec.snap (cbOf cbs) (row z r) c := by
  have hs : ∀ (q : Fin 4) (e : Fin 64), c = Spec.col q e → straight z cbs q (ix2 r e) = Spec.snap (cbOf cbs) (row z r) c := by
    rintro q e rfl
    rw [straight_at, Spec.snap_col]
  pointwise [beside]
  have hc := c.isLt
  split_ifs with h0 h1 h2 <;> apply hs <;> exact Fin.ext (by simp [Spec.col]; try omega)

/-- Four index vectors as columns. -/
theorem columns_read (i0 i1 i2 i3 : IArr Ideal S16384) (r : Fin 16384) (q : Fin 4) :
    columns i0 i1 i2 i3 (ix2 r q) = (![i0 (ix1 r), i1 (ix1 r), i2 (ix1 r), i3 (ix1 r)] : Fin 4 → BitVec 32) q := by
  pointwise [columns]
  fin_cases q <;> rfl

/-- The four values of a function, listed. -/
theorem listed {α : Type} (f : Fin 4 → α) (q : Fin 4) : (![f 0, f 1, f 2, f 3] : Fin 4 → α) q = f q := by
  fin_cases q <;> rfl

/-- The indices of the four codebooks at row `r`. -/
theorem columns_at (z : FArr Ideal S16384x256) (cbs : FArr Ideal S4x256x64) (r : Fin 16384) (q : Fin 4) :
    columns (qindex z cbs 0) (qindex z cbs 1) (qindex z cbs 2) (qindex z cbs 3) (ix2 r q)
      = BitVec.ofNat 32 (Spec.near (cbOf cbs) (row z r) q).val := by
  rw [← qindex_at, columns_read]
  exact listed (fun q => qindex z cbs q (ix1 r)) q

/-! ### The three results -/

/-- The weights a valuation holds. -/
def weights (V : Valuation τ sig (Elt Ideal)) : Spec.Weights where
  w1 k n := (V (main_arg1 : DevRef τ sig) : FArr Ideal S768x512) (ix2 k n)
  b1 n := (V (main_arg2 : DevRef τ sig) : FArr Ideal S512) (ix1 n)
  w2 k n := (V (main_arg3 : DevRef τ sig) : FArr Ideal S512x256) (ix2 k n)
  b2 n := (V (main_arg4 : DevRef τ sig) : FArr Ideal S256) (ix1 n)
  cb := cbOf (V (main_arg5 : DevRef τ sig))
  dw1 k n := (V (main_arg6 : DevRef τ sig) : FArr Ideal S256x512) (ix2 k n)
  db1 n := (V (main_arg7 : DevRef τ sig) : FArr Ideal S512) (ix1 n)
  dw2 k n := (V (main_arg8 : DevRef τ sig) : FArr Ideal S512x768) (ix2 k n)
  db2 n := (V (main_arg9 : DevRef τ sig) : FArr Ideal S768) (ix1 n)

/-- Row `r` of the input. -/
def input (V : Valuation τ sig (Elt Ideal)) (r : Fin 16384) (k : Fin 768) : EReal :=
  (V (main_arg0 : DevRef τ sig) : FArr Ideal S16384x768) (ix2 r k)

/-- Row `r` of the encoder's output is the layers of row `r` of the input. -/
theorem row_zOf (V : Valuation τ sig (Elt Ideal)) (r : Fin 16384) : row (zOf V) r = (weights V).latent (input V r) :=
  funext fun c => encode_at _ _ _ _ _ r c

/-- The reference's first result at row `r`. -/
theorem out_value (V : Valuation τ sig (Elt Ideal)) (r : Fin 16384) (c : Fin 768) :
    (after ops V (main_v154 : DevRef τ sig) : FArr Ideal S16384x768) (ix2 r c)
      = (weights V).rebuilt ((weights V).latent (input V r)) c := by
  rw [out_eq, decode_at]
  simp only [beside_at, row_zOf]
  rfl

/-- The reference's third result at row `r`. -/
theorem index_value (V : Valuation τ sig (Elt Ideal)) (r : Fin 16384) (q : Fin 4) :
    (after ops V (main_v145 : DevRef τ sig) : IArr Ideal S16384x4) (ix2 r q)
      = BitVec.ofNat 32 (Spec.near (weights V).cb ((weights V).latent (input V r)) q).val := by
  rw [index_eq, columns_at, row_zOf]
  rfl

/-- The reference's loss of codebook `q`. -/
theorem qloss_value (V : Valuation τ sig (Elt Ideal)) (q : Fin 4) (j : S_.Idx) :
    qloss (qvec (zOf V) (V (main_arg5 : DevRef τ sig)) q) (slice (zOf V) q) j
      = Spec.weigh (∑ r : Fin 16384, Spec.err (weights V).cb ((weights V).latent (input V r)) q) := by
  rw [qloss_at]
  simp only [qvec_at, slice_at, ← row_zOf]
  rfl

/-- The reference's second result. -/
theorem loss_value (V : Valuation τ sig (Elt Ideal)) (j : S_.Idx) :
    (after ops V (main_v140 : DevRef τ sig) : FArr Ideal S_) j
      = (∑ q : Fin 4, Spec.weigh (∑ r : Fin 16384, Spec.err (weights V).cb ((weights V).latent (input V r)) q))
          * ((1 / 4 : ℝ) : EReal) := by
  rw [loss_eq, meanLoss_at]
  refine congrArg (· * ((1 / 4 : ℝ) : EReal)) (Finset.sum_congr rfl fun q _ => ?_)
  rw [← qloss_value V q ix0]
  exact listed (fun q => qloss (qvec (zOf V) (V (main_arg5 : DevRef τ sig)) q) (slice (zOf V) q) ix0) q

end Cert.Proof.Ref

end
-- ==== Proof.KernelBlock.lean ====
/-
  One block of 1024 rows in the kernel: its body's payloads, written once for the four codebooks, and read at a row as the
  mathematics of Spec.lean.
-/
module

public import proofs.«01_k».proof.Proof.Gen.KernelIdeal.Skeleton
public import proofs.«01_k».proof.Proof.Spec
public import Idealize.ShloMosaic.Lib.Pointwise
public import Idealize.ShloMosaic.Lib.WordCmp

@[expose] public section

set_option maxRecDepth 16384

noncomputable section

namespace Cert.Proof.Krn

open Cert.KernelIdeal Cert.KernelIdeal.Gen Idealize.ShloMosaic

/-! ### The pieces of the body -/

section Pieces

variable {F : FTy → Type} [FloatOps F]

/-- Slice `q` of the encoder's block. -/
def kpart (q : Fin 4) (z : FVec F S1024x256 .f32) : FVec F S1024x64 .f32 :=
  match q with
  | ⟨0, _⟩ => extractStridedSlice S1024x64 ![0, 0] z slices_S1024x256_o0_0_S1024x64
  | ⟨1, _⟩ => extractStridedSlice S1024x64 ![0, 64] z slices_S1024x256_o0_64_S1024x64
  | ⟨2, _⟩ => extractStridedSlice S1024x64 ![0, 128] z slices_S1024x256_o0_128_S1024x64
  | ⟨3, _⟩ => extractStridedSlice S1024x64 ![0, 192] z slices_S1024x256_o0_192_S1024x64

/-- A codebook's block without its leading axis. -/
def kbook (b : Vec F S1x256x64 .f32) : FVec F S256x64 .f32 := shapeCast S256x64 b shapeCasts_S1x256x64_S256x64

/-- The squared distances of the rows to the codebook's vectors. -/
def kdist (z : FVec F S1024x64 .f32) (cb : FVec F S256x64 .f32) : FVec F S1024x256 .f32 :=
  subf
    (addf
      (broadcastTo S1024x256 (shapeCast S1024x1 (multiReduction .add [1] S1024 (mulf z z) 0x00000000#32 reduces_S1024x64_S1024
        (.inl rfl) rfl) shapeCasts_S1024_S1024x1) broadcasts_S1024x1_S1024x256)
      (broadcastTo S1024x256 (shapeCast S1x256 (multiReduction .add [1] S256 (mulf cb cb) 0x00000000#32 reduces_S256x64_S256
        (.inl rfl) rfl) shapeCasts_S256_S1x256) broadcasts_S1x256_S1024x256))
    (mulf (broadcast S1024x256 (Scalar.ofBits .f32 0x40000000#32))
      (matmul dot_S1024x64_S256x64_S1024x256_1_1_0_0_n_n none z cb (constant S1024x256 .f32 0x00000000#32)))

/-- The columns' numbers. -/
def kcols : IVec S1024x256 32 := iota .tc S1024x256 32 [1] iota_S1024x256_d1_w32

/-- Every row's smallest entry, along the row. -/
def kleast (d : FVec F S1024x256 .f32) : FVec F S1024x256 .f32 :=
  broadcastTo S1024x256 (shapeCast S1024x1 (multiReduction .minimumf [1] S1024 d 0x7F800000#32 reduces_S1024x256_S1024
    (.inl rfl) rfl) shapeCasts_S1024_S1024x1) broadcasts_S1024x1_S1024x256

/-- The numbers of the columns that hold their row's smallest entry, and 256 elsewhere. -/
def kmarks (d : FVec F S1024x256 .f32) : IVec S1024x256 32 :=
  select (cmpf .oeq d (kleast d)) kcols (broadcast S1024x256 256#32)

/-- The smallest of a row's words. -/
def klow (w : IVec S1024x256 32) : IVec S1024 32 :=
  multiReductionI .minsi [1] S1024 w 2147483647#32 reduces_S1024x256_S1024 rfl

/-- The index of every row's smallest entry. -/
def kpick (d : FVec F S1024x256 .f32) : IVec S1024 32 := klow (kmarks d)

/-- Ones where a row's index is the column's number, zeros elsewhere. -/
def khot (i : IVec S1024 32) : FVec F S1024x256 .f32 :=
  sitofp .f32 (extui 32 (cmpi .eq kcols (broadcastTo S1024x256 (shapeCast S1024x1 i shapeCasts_S1024_S1024x1)
    broadcasts_S1024x1_S1024x256)) natLt_1_32)

/-- The codebook's vectors at the indices. -/
def kvec (i : IVec S1024 32) (cb : FVec F S256x64 .f32) : FVec F S1024x64 .f32 :=
  matmul dot_S1024x256_S256x64_S1024x64_1_0_0_1_n_n none (khot i) cb (constant S1024x64 .f32 0x00000000#32)

/-- The nearest vectors' differences to the slice. -/
def kgap (z : FVec F S1024x64 .f32) (cb : FVec F S256x64 .f32) : FVec F S1024x64 .f32 := subf (kvec (kpick (kdist z cb)) cb) z

/-- The sum of a block's squares. -/
def ksum (g : FVec F S1024x64 .f32) : F .f32 :=
  extractAt ![0, 0, 0] (shapeCast S1x1x1 (multiReduction .add [1, 2] S1 (shapeCast S1x1024x64 (mulf g g) shapeCasts_S1024x64_S1x1024x64)
    0x00000000#32 reduces_S1x1024x64_S1 (.inl rfl) rfl) shapeCasts_S1_S1x1x1) inpos_S1x1x1_p0_0_0

/-- The four slices with their differences added, side by side. -/
def kbeside (z : FVec F S1024x256 .f32) (g0 g1 g2 g3 : FVec F S1024x64 .f32) : FVec F S1024x256 .f32 :=
  concatenate S1024x256 1 [⟨S1024x64, addf (kpart 0 z) g0⟩, ⟨S1024x64, addf (kpart 1 z) g1⟩, ⟨S1024x64, addf (kpart 2 z) g2⟩,
    ⟨S1024x64, addf (kpart 3 z) g3⟩] concatenates_S1024x64_S1024x64_S1024x64_S1024x64_S1024x256_d1

/-- The decoder's block. -/
def kdecode (x : FVec F S1024x256 .f32) (w1 : Vec F S256x512 .f32) (b1 : Vec F S1x512 .f32) (w2 : Vec F S512x768 .f32)
    (b2 : Vec F S1x768 .f32) : FVec F S1024x768 .f32 :=
  addf
    (matmul dot_S1024x512_S512x768_S1024x768_1_0_0_1_n_n none
      (maximumf
        (addf (matmul dot_S1024x256_S256x512_S1024x512_1_0_0_1_n_n none x w1 (constant S1024x512 .f32 0x00000000#32))
          (broadcastTo S1024x512 (shapeCast S1x512 b1 shapeCasts_S1x512_S1x512) broadcasts_S1x512_S1024x512))
        (broadcast S1024x512 (Scalar.ofBits .f32 0x00000000#32)))
      w2 (constant S1024x768 .f32 0x00000000#32))
    (broadcastTo S1024x768 (shapeCast S1x768 b2 shapeCasts_S1x768_S1x768) broadcasts_S1x768_S1024x768)

/-- The differences of slice `q` of a block to the codebook in `b`. -/
def kdiff (q : Fin 4) (z : FVec F S1024x256 .f32) (b : Vec F S1x256x64 .f32) : FVec F S1024x64 .f32 := kgap (kpart q z) (kbook b)

/-- The indices of slice `q` of a block into the codebook in `b`. -/
def kindex (q : Fin 4) (z : FVec F S1024x256 .f32) (b : Vec F S1x256x64 .f32) : IVec S1024 32 := kpick (kdist (kpart q z) (kbook b))

variable (x0 : Vec F S1024x768 .f32) (x1 : Vec F S768x512 .f32) (x2 : Vec F S1x512 .f32) (x3 : Vec F S512x256 .f32)
  (x4 : Vec F S1x256 .f32) (z : FVec F S1024x256 .f32) (b0 b1 b2 b3 : Vec F S1x256x64 .f32)

/-- The first index payload. -/
theorem index0_eq : k0_pay8 (iota .tc S1024x256 32 [1] iota_S1024x256_d1_w32) (k0_pay6 x0 x1 x2 x3 x4 b0) k0_pay7
    = kindex 0 (k0_pay3 x0 x1 x2 x3 x4) b0 := rfl

/-- The second index payload. -/
theorem index1_eq : k0_pay14 z b1 = kindex 1 z b1 := rfl

/-- The third index payload. -/
theorem index2_eq : k0_pay20 z b2 = kindex 2 z b2 := rfl

/-- The fourth index payload. -/
theorem index3_eq : k0_pay27 z b3 = kindex 3 z b3 := rfl

/-- The block of the first result. -/
theorem out_eq (w1 : Vec F S256x512 .f32) (c1 : Vec F S1x512 .f32) (w2 : Vec F S512x768 .f32) (c2 : Vec F S1x768 .f32) :
    k0_pay1
      (k0_pay11 (k0_pay4 x0 x1 x2 x3 x4) (k0_pay5 b0) (iota .tc S1024x256 32 [1] iota_S1024x256_d1_w32)
        (k0_pay6 x0 x1 x2 x3 x4 b0) k0_pay7)
      (k0_pay17 (k0_pay12 (k0_pay3 x0 x1 x2 x3 x4)) (k0_pay13 b1) (iota .tc S1024x256 32 [1] iota_S1024x256_d1_w32)
        (k0_pay14 (k0_pay3 x0 x1 x2 x3 x4) b1))
      (k0_pay24 (k0_pay18 (k0_pay3 x0 x1 x2 x3 x4)) (k0_pay21 (k0_pay3 x0 x1 x2 x3 x4) b2))
      (k0_pay25 (k0_pay3 x0 x1 x2 x3 x4)) (k0_pay28 (k0_pay3 x0 x1 x2 x3 x4) b3) w1 c1 w2 c2
      = kdecode (kbeside (k0_pay3 x0 x1 x2 x3 x4) (kdiff 0 (k0_pay3 x0 x1 x2 x3 x4) b0) (kdiff 1 (k0_pay3 x0 x1 x2 x3 x4) b1)
          (kdiff 2 (k0_pay3 x0 x1 x2 x3 x4) b2) (kdiff 3 (k0_pay3 x0 x1 x2 x3 x4) b3)) w1 c1 w2 c2 := rfl

/-- What a block adds to the loss. -/
theorem loss_eq (v : Elt F .f32) :
    k0_pay2
      (k0_pay23
        (k0_pay16
          (k0_pay10 (k0_pay4 x0 x1 x2 x3 x4) (k0_pay5 b0) (iota .tc S1024x256 32 [1] iota_S1024x256_d1_w32)
            (k0_pay6 x0 x1 x2 x3 x4 b0) k0_pay7)
          (k0_pay12 (k0_pay3 x0 x1 x2 x3 x4)) (k0_pay13 b1) (iota .tc S1024x256 32 [1] iota_S1024x256_d1_w32)
          (k0_pay14 (k0_pay3 x0 x1 x2 x3 x4) b1))
        (k0_pay18 (k0_pay3 x0 x1 x2 x3 x4)) (k0_pay21 (k0_pay3 x0 x1 x2 x3 x4) b2))
      (k0_pay29 (k0_pay3 x0 x1 x2 x3 x4) b3) v
      = Scalar.addf v (Scalar.addf (Scalar.addf (Scalar.addf (Scalar.addf (Scalar.ofBits .f32 0x00000000#32)
          (ksum (kdiff 0 (k0_pay3 x0 x1 x2 x3 x4) b0))) (ksum (kdiff 1 (k0_pay3 x0 x1 x2 x3 x4) b1)))
          (ksum (kdiff 2 (k0_pay3 x0 x1 x2 x3 x4) b2))) (ksum (kdiff 3 (k0_pay3 x0 x1 x2 x3 x4) b3))) := rfl

end Pieces

/-! ### At a row -/

/-- The encoder's block at row `r`. -/
theorem encode_at (x0 : Vec Ideal S1024x768 .f32) (x1 : Vec Ideal S768x512 .f32) (x2 : Vec Ideal S1x512 .f32)
    (x3 : Vec Ideal S512x256 .f32) (x4 : Vec Ideal S1x256 .f32) (r : Fin 1024) (c : Fin 256) :
    k0_pay3 x0 x1 x2 x3 x4 (ix2 r c)
      = Spec.affine (fun k n => x3 (ix2 k n)) (fun n => x4 (ix2 0 n))
          (Spec.hidden (fun k n => x1 (ix2 k n)) (fun n => x2 (ix2 0 n)) fun k => x0 (ix2 r k)) c := by
  pointwise [k0_pay3]
  rfl

/-- The decoder's block at row `r`. -/
theorem decode_at (x : FVec Ideal S1024x256 .f32) (w1 : Vec Ideal S256x512 .f32) (b1 : Vec Ideal S1x512 .f32)
    (w2 : Vec Ideal S512x768 .f32) (b2 : Vec Ideal S1x768 .f32) (r : Fin 1024) (c : Fin 768) :
    kdecode x w1 b1 w2 b2 (ix2 r c)
      = Spec.affine (fun k n => w2 (ix2 k n)) (fun n => b2 (ix2 0 n))
          (Spec.hidden (fun k n => w1 (ix2 k n)) (fun n => b1 (ix2 0 n)) fun k => x (ix2 r k)) c := by
  pointwise [kdecode]
  rfl

/-- The word of the number two. -/
theorem two_eq : Ideal.ofBits FTy.f32 1073741824#32 = 2 := by
  simp [Ideal.ofBits, Ideal.ieee, -EReal.coe_mul]; norm_num
  rfl

/-- The distances at row `r`. -/
theorem dist_at (z : FVec Ideal S1024x64 .f32) (cb : FVec Ideal S256x64 .f32) (r : Fin 1024) (n : Fin 256) :
    kdist z cb (ix2 r n) = Spec.sqDist (fun n e => cb (ix2 n e)) (fun e => z (ix2 r e)) n := by
  pointwise [kdist]
  rw [two_eq]
  rfl

/-- Slice `q` at row `r`. -/
theorem part_at (z : FVec Ideal S1024x256 .f32) (q : Fin 4) (r : Fin 1024) (n : Fin 64) :
    kpart q z (ix2 r n) = z (ix2 r (Spec.col q n)) := by
  fin_cases q <;> pointwise [kpart] <;> exact congrArg (fun c => z (ix2 r c)) (Fin.ext (by simp [Spec.col]; try omega))

/-- A codebook's vector. -/
theorem book_at (b : Vec Ideal S1x256x64 .f32) (r : Fin 256) (n : Fin 64) :
    kbook b (ix2 r n) = b (ix3 0 r n) := by
  pointwise [kbook]

/-! ### The smallest entry's column -/

/-- The word of plus infinity. -/
theorem top_eq : Ideal.ofBits FTy.f32 2139095040#32 = ⊤ := by
  simp [Ideal.ofBits, Ideal.ieee]

/-- The smallest of a row's entries is its first smallest entry. -/
theorem fold_least (d : Fin 256 → EReal) : Finset.fold min (⊤ : EReal) d Finset.univ = d (Spec.first d) := by
  refine le_antisymm (Finset.fold_min_le _ |>.mpr (Or.inr ⟨_, Finset.mem_univ _, le_rfl⟩))
    (Finset.le_fold_min _ |>.mpr ⟨le_top, fun n _ => ?_⟩)
  rcases Spec.first_spec d n with h | ⟨h, -⟩
  · exact h.le
  · exact h.le

/-- The smaller of two words, as integers. -/
theorem toInt_minsi (a b : BitVec 32) : (IntOp.minsi a b).toInt = min a.toInt b.toInt := by
  unfold IntOp.minsi
  simp only [BitVec.slt, decide_eq_true_eq]
  split_ifs with h
  · exact (min_eq_left h.le).symm
  · exact (min_eq_right (not_lt.mp h)).symm

/-- The word of a column, as an integer. -/
theorem toInt_col (n : Fin 256) : (BitVec.ofNat 32 n.val).toInt = (n.val : Int) :=
  WordCmp.toInt_ofNat_of_lt (lt_trans n.isLt (by norm_num))

/-- A word of the list that is no larger than the others, and no larger than the start, is what the fold leaves. -/
theorem fold_low (w : Fin 256 → BitVec 32) (s : BitVec 32) (j : Fin 256) (hs : (w j).toInt ≤ s.toInt)
    (hw : ∀ n, (w j).toInt ≤ (w n).toInt) : Finset.fold IntOp.minsi s w Finset.univ = w j := by
  apply BitVec.eq_of_toInt_eq
  rw [← Finset.fold_hom (op' := (min : Int → Int → Int)) (m := BitVec.toInt) toInt_minsi]
  exact le_antisymm (Finset.fold_min_le _ |>.mpr (Or.inr ⟨j, Finset.mem_univ _, le_rfl⟩))
    (Finset.le_fold_min _ |>.mpr ⟨hs, fun n _ => hw n⟩)

/-- The marks at row `r`. -/
theorem marks_at (d : FVec Ideal S1024x256 .f32) (r : Fin 1024) (n : Fin 256) :
    kmarks d (ix2 r n)
      = if d (ix2 r n) = d (ix2 r (Spec.first fun n => d (ix2 r n))) then BitVec.ofNat 32 n.val else 256#32 := by
  pointwise [kmarks, kleast, kcols]
  rw [top_eq, fold_least]

/-- The index at row `r` is the first column of the smallest entry. -/
theorem pick_at (d : FVec Ideal S1024x256 .f32) (r : Fin 1024) :
    kpick d (ix1 r) = BitVec.ofNat 32 (Spec.first fun n => d (ix2 r n)).val := by
  have hj : kmarks d (ix2 r (Spec.first fun n => d (ix2 r n))) = BitVec.ofNat 32 (Spec.first fun n => d (ix2 r n)).val := by
    rw [marks_at, if_pos rfl]
  have hlt := (Spec.first fun n => d (ix2 r n)).isLt
  rw [← hj]
  unfold kpick
  pointwise [klow]
  refine fold_low (fun n => kmarks d (ix2 r n)) _ _ ?_ fun n => ?_
  · simp only [hj, toInt_col]
    exact le_trans (Int.ofNat_le.mpr hlt.le) (by decide)
  · simp only [hj, toInt_col]
    rw [marks_at]
    split_ifs with h
    · rw [toInt_col]
      rcases Spec.first_spec (fun n => d (ix2 r n)) n with h' | ⟨-, h'⟩
      · exact absurd h h'.ne'
      · exact Int.ofNat_le.mpr h'
    · exact le_trans (Int.ofNat_le.mpr hlt.le) (by decide)

/-! ### A row's vector -/

/-- The ones and zeros of row `r`. -/
theorem hot_at (i : IVec S1024 32) (r : Fin 1024) (n k : Fin 256) (h : i (ix1 r) = BitVec.ofNat 32 k.val) :
    (khot i : FVec Ideal S1024x256 .f32) (ix2 r n) = if n = k then (1 : EReal) else 0 := by
  pointwise [khot, kcols]
  rw [h, WordCmp.cmpi_eq_eq]
  show (((BitVec.setWidth 32 _).toInt : ℝ) : EReal) = _
  by_cases hn : n = k
  · subst hn
    simp
  · have : BitVec.ofNat 32 n.val ≠ BitVec.ofNat 32 k.val := fun e => hn <| Fin.ext <| by
      have := congrArg BitVec.toInt e
      rw [toInt_col, toInt_col] at this
      exact_mod_cast this
    simp [hn, this]

/-- The codebook's vector at row `r`. -/
theorem vec_at (i : IVec S1024 32) (cb : FVec Ideal S256x64 .f32) (r : Fin 1024) (e : Fin 64) (k : Fin 256)
    (h : i (ix1 r) = BitVec.ofNat 32 k.val) : kvec i cb (ix2 r e) = cb (ix2 k e) := by
  pointwise [kvec]
  simp only [hot_at i r _ k h, ite_mul, one_mul, zero_mul]
  rw [Finset.sum_ite_eq' Finset.univ k fun n => cb (ix2 n e), if_pos (Finset.mem_univ _)]

/-! ### The block's results -/

/-- Row `r` of a block. -/
def krow (z : FVec Ideal S1024x256 .f32) (r : Fin 1024) (c : Fin 256) : EReal := z (ix2 r c)

/-- The codebooks of four blocks. -/
def kcb (b : Fin 4 → Vec Ideal S1x256x64 .f32) (q : Fin 4) (n : Fin 256) (e : Fin 64) : EReal := b q (ix3 0 n e)

variable (z : FVec Ideal S1024x256 .f32) (b : Fin 4 → Vec Ideal S1x256x64 .f32)

/-- The index of codebook `q` at row `r`. -/
theorem index_at (q : Fin 4) (r : Fin 1024) :
    kindex q z (b q) (ix1 r) = BitVec.ofNat 32 (Spec.near (kcb b) (krow z r) q).val := by
  unfold kindex
  rw [pick_at]
  simp only [dist_at, part_at, book_at]
  rfl

/-- The difference to slice `q` at row `r`. -/
theorem diff_at (q : Fin 4) (r : Fin 1024) (e : Fin 64) :
    kdiff q z (b q) (ix2 r e) = Spec.gap (kcb b) (krow z r) q e := by
  pointwise [kdiff, kgap]
  rw [vec_at (kpick (kdist (kpart q z) (kbook (b q)))) _ r e _ (index_at z b q r), book_at, part_at]
  rfl

/-- The four slices with their differences, at row `r`. -/
theorem beside_at (r : Fin 1024) (c : Fin 256) :
    kbeside z (kdiff 0 z (b 0)) (kdiff 1 z (b 1)) (kdiff 2 z (b 2)) (kdiff 3 z (b 3)) (ix2 r c)
      = Spec.snap (kcb b) (krow z r) c := by
  have hs : ∀ (q : Fin 4) (e : Fin 64), c = Spec.col q e →
      kpart q z (ix2 r e) + kdiff q z (b q) (ix2 r e) = Spec.snap (kcb b) (krow z r) c := by
    rintro q e rfl
    rw [part_at, diff_at, Spec.snap_col]
    rfl
  pointwise [kbeside]
  have hc := c.isLt
  split_ifs with h0 h1 h2 <;> apply hs <;> exact Fin.ext (by simp [Spec.col]; try omega)

/-- A block's sum of squared differences to the codebook `q`. -/
theorem sum_at (q : Fin 4) : ksum (kdiff q z (b q)) = ∑ r : Fin 1024, Spec.err (kcb b) (krow z r) q := by
  pointwise [ksum]
  simp only [diff_at]
  rfl

end Cert.Proof.Krn

end
-- ==== Proof.KernelValue.lean ====
/-
  The kernel's arrays after its 16 points: every row of a result is the mathematics of Spec.lean of that row of the input, and
  the loss is a multiple of the sum over all rows.
-/
module

public import proofs.«01_k».proof.Proof.Gen.KernelIdeal.Frame
public import proofs.«01_k».proof.Proof.KernelBlock
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.Krn

open Cert.KernelIdeal Cert.KernelIdeal.Gen Idealize.ShloMosaic Idealize.ShloMosaic.TcCoe
open Idealize.ShloMosaic.Pipeline (Dat)

variable (m : (ℓ : Loc nD τ sig) → Buf (Elt Ideal) ℓ) (c : Dev nD) (t : Fin cfg0.N)

/-! ### What the points read -/

/-- The weights in the argument arrays. -/
def weights : Spec.Weights where
  w1 k n := (m ((c : Thread nD τ).loc main_arg1) : Vec Ideal S768x512 .f32) (ix2 k n)
  b1 n := (m ((c : Thread nD τ).loc main_arg2) : Vec Ideal S512 .f32) (ix1 n)
  w2 k n := (m ((c : Thread nD τ).loc main_arg3) : Vec Ideal S512x256 .f32) (ix2 k n)
  b2 n := (m ((c : Thread nD τ).loc main_arg4) : Vec Ideal S256 .f32) (ix1 n)
  cb q n e := (m ((c : Thread nD τ).loc main_arg5) : Vec Ideal S4x256x64 .f32) (ix3 q n e)
  dw1 k n := (m ((c : Thread nD τ).loc main_arg6) : Vec Ideal S256x512 .f32) (ix2 k n)
  db1 n := (m ((c : Thread nD τ).loc main_arg7) : Vec Ideal S512 .f32) (ix1 n)
  dw2 k n := (m ((c : Thread nD τ).loc main_arg8) : Vec Ideal S512x768 .f32) (ix2 k n)
  db2 n := (m ((c : Thread nD τ).loc main_arg9) : Vec Ideal S768 .f32) (ix1 n)

/-- Row `r` of the input array. -/
def input (r : Fin 16384) (k : Fin 768) : EReal := (m ((c : Thread nD τ).loc main_arg0) : Vec Ideal S16384x768 .f32) (ix2 r k)

/-- Row `r` of point `t`'s block, as a row of the array. -/
def place (t : Fin cfg0.N) (r : Fin 1024) : Fin 16384 := ⟨t.val * 1024 + r.val, by have := t.isLt; have : cfg0.N = 16 := N_0; omega⟩

/-- The blocks of the input follow the points. -/
theorem idx0 : ∀ t : Fin cfg0.N, win0_0.index t = ![t.val, 0] := by decide +kernel
/-- The first encoder weight is read whole. -/
theorem idx1 : ∀ t : Fin cfg0.N, win0_1.index t = ![0, 0] := by decide +kernel
/-- The first encoder bias is read whole. -/
theorem idx2 : ∀ t : Fin cfg0.N, win0_2.index t = ![0, 0] := by decide +kernel
/-- The second encoder weight is read whole. -/
theorem idx3 : ∀ t : Fin cfg0.N, win0_3.index t = ![0, 0] := by decide +kernel
/-- The second encoder bias is read whole. -/
theorem idx4 : ∀ t : Fin cfg0.N, win0_4.index t = ![0, 0] := by decide +kernel
/-- The codebooks are read whole. -/
theorem idx5 : ∀ t : Fin cfg0.N, win0_5.index t = ![0, 0, 0] := by decide +kernel
/-- The first decoder weight is read whole. -/
theorem idx6 : ∀ t : Fin cfg0.N, win0_6.index t = ![0, 0] := by decide +kernel
/-- The first decoder bias is read whole. -/
theorem idx7 : ∀ t : Fin cfg0.N, win0_7.index t = ![0, 0] := by decide +kernel
/-- The second decoder weight is read whole. -/
theorem idx8 : ∀ t : Fin cfg0.N, win0_8.index t = ![0, 0] := by decide +kernel
/-- The second decoder bias is read whole. -/
theorem idx9 : ∀ t : Fin cfg0.N, win0_9.index t = ![0, 0] := by decide +kernel
/-- The blocks of the rebuilt rows follow the points. -/
theorem idx10 : ∀ t : Fin cfg0.N, win0_10.index t = ![t.val, 0] := by decide +kernel
/-- The blocks of index column 0 follow the points. -/
theorem idx11 : ∀ t : Fin cfg0.N, win0_11.index t = ![t.val] := by decide +kernel
/-- The blocks of index column 1 follow the points. -/
theorem idx12 : ∀ t : Fin cfg0.N, win0_12.index t = ![t.val] := by decide +kernel
/-- The blocks of index column 2 follow the points. -/
theorem idx13 : ∀ t : Fin cfg0.N, win0_13.index t = ![t.val] := by decide +kernel
/-- The blocks of index column 3 follow the points. -/
theorem idx14 : ∀ t : Fin cfg0.N, win0_14.index t = ![t.val] := by decide +kernel

/-- Point `t`'s block of the input is its 1024 rows. -/
theorem read0 (r : Fin 1024) (k : Fin 768) : (iblk m c 0 t : Vec Ideal S1024x768 .f32) (ix2 r k) = input m c (place t r) k := by
  unfold input place
  blk_ext! [iblk, V, idx0 t]

/-- Every point reads the first encoder weight. -/
theorem read1 (k : Fin 768) (n : Fin 512) : (iblk m c 1 t : Vec Ideal S768x512 .f32) (ix2 k n) = (weights m c).w1 k n := by
  unfold weights
  dsimp only
  blk_ext! [iblk, V, idx1 t]

/-- Every point reads the second encoder weight. -/
theorem read3 (k : Fin 512) (n : Fin 256) : (iblk m c 3 t : Vec Ideal S512x256 .f32) (ix2 k n) = (weights m c).w2 k n := by
  unfold weights
  dsimp only
  blk_ext! [iblk, V, idx3 t]

/-- Every point reads the first decoder weight. -/
theorem read6 (k : Fin 256) (n : Fin 512) : (iblk m c 6 t : Vec Ideal S256x512 .f32) (ix2 k n) = (weights m c).dw1 k n := by
  unfold weights
  dsimp only
  blk_ext! [iblk, V, idx6 t]

/-- Every point reads the second decoder weight. -/
theorem read8 (k : Fin 512) (n : Fin 768) : (iblk m c 8 t : Vec Ideal S512x768 .f32) (ix2 k n) = (weights m c).dw2 k n := by
  unfold weights
  dsimp only
  blk_ext! [iblk, V, idx8 t]

/-- Every point reads the codebooks. -/
theorem read5 (q : Fin 4) (n : Fin 256) (e : Fin 64) : (iblk m c 5 t : Vec Ideal S4x256x64 .f32) (ix3 q n e) = (weights m c).cb q n e := by
  unfold weights
  dsimp only
  blk_ext! [iblk, V, idx5 t]

/-- Before the kernel the first encoder bias is a single row. -/
theorem entry2 : (V m c main_v0 : Vec Ideal S1x512 .f32) = shapeCast S1x512 (m ((c : Thread nD τ).loc main_arg2)) shapeCasts_S512_S1x512 := by
  show StableHlo.after [hostOps0].flatten (fun b => m (c, b)) (Proc.devRef .tc main_v0) = _
  simp only [List.flatten_cons, List.flatten_nil, List.append_nil]
  unfold hostOps0
  after_reads_simp
  rfl

/-- The block of the first encoder bias is the row. -/
theorem emb2 (n : Fin 512) : (win0_2.blk t).view.emb (ix2 0 n) = (ix2 0 n : S1x512.Idx) := by
  blk_ext! [idx2 t]

/-- Every point reads the first encoder bias. -/
theorem read2 (n : Fin 512) : (iblk m c 2 t : Vec Ideal S1x512 .f32) (ix2 0 n) = (weights m c).b1 n := by
  show (V m c main_v0 : Vec Ideal S1x512 .f32) ((win0_2.blk t).view.emb (ix2 0 n)) = _
  rw [emb2, entry2]
  pointwise []
  rfl

/-- Before the kernel the second encoder bias is a single row. -/
theorem entry4 : (V m c main_v1 : Vec Ideal S1x256 .f32) = shapeCast S1x256 (m ((c : Thread nD τ).loc main_arg4)) shapeCasts_S256_S1x256 := by
  show StableHlo.after [hostOps0].flatten (fun b => m (c, b)) (Proc.devRef .tc main_v1) = _
  simp only [List.flatten_cons, List.flatten_nil, List.append_nil]
  unfold hostOps0
  after_reads_simp
  rfl

/-- The block of the second encoder bias is the row. -/
theorem emb4 (n : Fin 256) : (win0_4.blk t).view.emb (ix2 0 n) = (ix2 0 n : S1x256.Idx) := by
  blk_ext! [idx4 t]

/-- Every point reads the second encoder bias. -/
theorem read4 (n : Fin 256) : (iblk m c 4 t : Vec Ideal S1x256 .f32) (ix2 0 n) = (weights m c).b2 n := by
  show (V m c main_v1 : Vec Ideal S1x256 .f32) ((win0_4.blk t).view.emb (ix2 0 n)) = _
  rw [emb4, entry4]
  pointwise []
  rfl

/-- Before the kernel the first decoder bias is a single row. -/
theorem entry7 : (V m c main_v2 : Vec Ideal S1x512 .f32) = shapeCast S1x512 (m ((c : Thread nD τ).loc main_arg7)) shapeCasts_S512_S1x512 := by
  show StableHlo.after [hostOps0].flatten (fun b => m (c, b)) (Proc.devRef .tc main_v2) = _
  simp only [List.flatten_cons, List.flatten_nil, List.append_nil]
  unfold hostOps0
  after_reads_simp
  rfl

/-- The block of the first decoder bias is the row. -/
theorem emb7 (n : Fin 512) : (win0_7.blk t).view.emb (ix2 0 n) = (ix2 0 n : S1x512.Idx) := by
  blk_ext! [idx7 t]

/-- Every point reads the first decoder bias. -/
theorem read7 (n : Fin 512) : (iblk m c 7 t : Vec Ideal S1x512 .f32) (ix2 0 n) = (weights m c).db1 n := by
  show (V m c main_v2 : Vec Ideal S1x512 .f32) ((win0_7.blk t).view.emb (ix2 0 n)) = _
  rw [emb7, entry7]
  pointwise []
  rfl

/-- Before the kernel the second decoder bias is a single row. -/
theorem entry9 : (V m c main_v3 : Vec Ideal S1x768 .f32) = shapeCast S1x768 (m ((c : Thread nD τ).loc main_arg9)) shapeCasts_S768_S1x768 := by
  show StableHlo.after [hostOps0].flatten (fun b => m (c, b)) (Proc.devRef .tc main_v3) = _
  simp only [List.flatten_cons, List.flatten_nil, List.append_nil]
  unfold hostOps0
  after_reads_simp
  rfl

/-- The block of the second decoder bias is the row. -/
theorem emb9 (n : Fin 768) : (win0_9.blk t).view.emb (ix2 0 n) = (ix2 0 n : S1x768.Idx) := by
  blk_ext! [idx9 t]

/-- Every point reads the second decoder bias. -/
theorem read9 (n : Fin 768) : (iblk m c 9 t : Vec Ideal S1x768 .f32) (ix2 0 n) = (weights m c).db2 n := by
  show (V m c main_v3 : Vec Ideal S1x768 .f32) ((win0_9.blk t).view.emb (ix2 0 n)) = _
  rw [emb9, entry9]
  pointwise []
  rfl

/-- The encoder's rows of a point. -/
def zblk : Vec Ideal S1024x256 .f32 :=
  k0_pay3 (iblk m c 0 t) (iblk m c 1 t) (iblk m c 2 t) (iblk m c 3 t) (iblk m c 4 t)

/-- A point's codebook `q`. -/
def slab (q : Fin 4) : Vec Ideal S1x256x64 .f32 :=
  match q with
  | 0 => View.ld (iblk m c 5 t) (Rect.unit ![0, 0, 0] ![1, 256, 64] inb_S4x256x64_S1x256x64_0_0_0)
  | 1 => View.ld (iblk m c 5 t) (Rect.unit ![1, 0, 0] ![1, 256, 64] inb_S4x256x64_S1x256x64_1_0_0)
  | 2 => View.ld (iblk m c 5 t) (Rect.unit ![2, 0, 0] ![1, 256, 64] inb_S4x256x64_S1x256x64_2_0_0)
  | 3 => View.ld (iblk m c 5 t) (Rect.unit ![3, 0, 0] ![1, 256, 64] inb_S4x256x64_S1x256x64_3_0_0)

/-- A point's rows are the encoder's rows of its input. -/
theorem krow_zblk (r : Fin 1024) : krow (zblk m c t) r = (weights m c).latent (input m c (place t r)) := by
  funext n
  unfold krow zblk
  rw [encode_at]
  simp only [read0, read1, read2, read3, read4]
  rfl

/-- A load of one codebook reads that codebook. -/
theorem ld_book (X : Vec Ideal S4x256x64 .f32) (q : Fin 4) (inb) (n : Fin 256) (e : Fin 64) :
    (View.ld X (Rect.unit ![q.val, 0, 0] ![1, 256, 64] inb) : Vec Ideal S1x256x64 .f32) (ix3 0 n e) = X (ix3 q n e) := by
  refine congrArg X (funext fun a => Fin.ext ?_)
  fin_cases a
  · show q.val + 1 * 0 = q.val; omega
  · show 0 + 1 * n.val = n.val; omega
  · show 0 + 1 * e.val = e.val; omega

/-- A point's codebooks are the kernel's. -/
theorem kcb_slab : kcb (slab m c t) = (weights m c).cb := by
  funext q n e
  rw [← read5 m c t q n e]
  unfold kcb slab
  match q with
  | 0 => exact ld_book _ 0 _ n e
  | 1 => exact ld_book _ 1 _ n e
  | 2 => exact ld_book _ 2 _ n e
  | 3 => exact ld_book _ 3 _ n e

/-! ### What the points write -/

/-- The rebuilt rows of a point. -/
def rebuiltBlk : Vec Ideal S1024x768 .f32 :=
  kdecode (kbeside (zblk m c t) (kdiff 0 (zblk m c t) (slab m c t 0)) (kdiff 1 (zblk m c t) (slab m c t 1))
    (kdiff 2 (zblk m c t) (slab m c t 2)) (kdiff 3 (zblk m c t) (slab m c t 3)))
    (iblk m c 6 t) (iblk m c 7 t) (iblk m c 8 t) (iblk m c 9 t)

/-- A point's rebuilt rows are those of its input. -/
theorem rebuiltBlk_at (r : Fin 1024) (k : Fin 768) :
    rebuiltBlk m c t (ix2 r k) = (weights m c).rebuilt ((weights m c).latent (input m c (place t r))) k := by
  unfold rebuiltBlk
  rw [decode_at]
  simp only [read6, read7, read8, read9, beside_at (zblk m c t) (slab m c t), kcb_slab, krow_zblk]
  rfl

/-- The loss after a point, from the loss before it: what its rows add. -/
theorem loss_at (z : Vec Ideal S1024x256 .f32) (b : Fin 4 → Vec Ideal S1x256x64 .f32) (v : Ideal .f32) :
    Scalar.addf v (Scalar.addf (Scalar.addf (Scalar.addf (Scalar.addf (FloatOps.ofBits FTy.f32 0#32) (ksum (kdiff 0 z (b 0)))) (ksum (kdiff 1 z (b 1))))
      (ksum (kdiff 2 z (b 2)))) (ksum (kdiff 3 z (b 3)))) = v + ∑ q, ∑ r : Fin 1024, Spec.err (kcb b) (krow z r) q := by
  rw [sum_at, sum_at, sum_at, sum_at, Fin.sum_univ_four]
  show v + (Ideal.ofBits FTy.f32 0#32 + _ + _ + _ + _) = v + _
  rw [Ideal.ofBits_zero, zero_add]

/-- Point `t` writes its rebuilt rows. -/
theorem outs10 : (outsAt0 m c t.val t.isLt).1 = rebuiltBlk m c t := by
  by_cases h0 : t.val % 16 = 0
  · rw [outsAt0_A m c t h0]
    frame_out
    rw [out_eq]
    rfl
  · rw [outsAt0_B m c t h0]
    frame_out
    rw [out_eq]
    rfl

/-- Point `t` writes its rows' index into codebook 0. -/
theorem outs11 : (outsAt0 m c t.val t.isLt).2.1 = kindex 0 (zblk m c t) (slab m c t 0) := by
  by_cases h0 : t.val % 16 = 0
  · rw [outsAt0_A m c t h0]
    frame_out
    rw [index0_eq]
    rfl
  · rw [outsAt0_B m c t h0]
    frame_out
    rw [index0_eq]
    rfl

/-- Point `t` writes its rows' index into codebook 1. -/
theorem outs12 : (outsAt0 m c t.val t.isLt).2.2.1 = kindex 1 (zblk m c t) (slab m c t 1) := by
  by_cases h0 : t.val % 16 = 0
  · rw [outsAt0_A m c t h0]
    frame_out
    rw [index1_eq]
    rfl
  · rw [outsAt0_B m c t h0]
    frame_out
    rw [index1_eq]
    rfl

/-- Point `t` writes its rows' index into codebook 2. -/
theorem outs13 : (outsAt0 m c t.val t.isLt).2.2.2.1 = kindex 2 (zblk m c t) (slab m c t 2) := by
  by_cases h0 : t.val % 16 = 0
  · rw [outsAt0_A m c t h0]
    frame_out
    rw [index2_eq]
    rfl
  · rw [outsAt0_B m c t h0]
    frame_out
    rw [index2_eq]
    rfl

/-- Point `t` writes its rows' index into codebook 3. -/
theorem outs14 : (outsAt0 m c t.val t.isLt).2.2.2.2.1 = kindex 3 (zblk m c t) (slab m c t 3) := by
  by_cases h0 : t.val % 16 = 0
  · rw [outsAt0_A m c t h0]
    frame_out
    rw [index3_eq]
    rfl
  · rw [outsAt0_B m c t h0]
    frame_out
    rw [index3_eq]
    rfl

/-- What a point adds to the loss. -/
def added : EReal := ∑ q, ∑ r : Fin 1024, Spec.err (weights m c).cb ((weights m c).latent (input m c (place t r))) q

/-- The one index of a 1x1 array. -/
theorem one_idx (i j : S1x1.Idx) : i = j := funext fun a => by
  fin_cases a <;> exact Subsingleton.elim (α := Fin 1) _ _

/-- The first point starts the loss. -/
theorem outs15_first (h0 : t.val % 16 = 0) (j : S1x1.Idx) : (outsAt0 m c t.val t.isLt).2.2.2.2.2 j = (0 : EReal) + added m c t := by
  rw [outsAt0_A m c t h0]
  frame_out
  rw [loss_eq]
  refine (loss_at (zblk m c t) (slab m c t) _).trans ?_
  simp only [kcb_slab, krow_zblk]
  exact congrArg (· + added m c t) Ideal.ofBits_zero_f32

/-- A later point adds to the loss of the point before it. -/
theorem outs15_next (h0 : ¬t.val % 16 = 0) (j : S1x1.Idx) :
    (outsAt0 m c t.val t.isLt).2.2.2.2.2 j
      = (outsAt0 m c (t.val - 1) (Nat.lt_of_le_of_lt (Nat.sub_le _ _) t.isLt)).2.2.2.2.2 j + added m c t := by
  rw [outsAt0_B m c t h0]
  frame_out
  rw [loss_eq]
  refine (loss_at (zblk m c t) (slab m c t) _).trans ?_
  simp only [kcb_slab, krow_zblk]
  exact congrArg (fun i => (outsAt0 m c (t.val - 1) (Nat.lt_of_le_of_lt (Nat.sub_le _ _) t.isLt)).2.2.2.2.2 i + added m c t) (one_idx _ j)

/-! ### The arrays after the kernel -/

/-- The rebuilt rows of the input. -/
def rebuiltArr : Vec Ideal S16384x768 .f32 := fun i => (weights m c).rebuilt ((weights m c).latent (input m c (i 0))) (i 1)

/-- Its rows' indices into codebook `q`. -/
def indexArr (q : Fin 4) : Vec Ideal S16384 .i32 := fun i =>
  BitVec.ofNat 32 (Spec.near (weights m c).cb ((weights m c).latent (input m c (i 0))) q).val

/-- Block `t` of the rebuilt rows. -/
theorem emb10 (r : Fin 1024) (k : Fin 768) : (win0_10.blk t).view.emb (ix2 r k) = (ix2 (place t r) k : S16384x768.Idx) := by
  unfold place
  blk_ext! [idx10 t]

/-- A point's rebuilt rows are a block of the array's. -/
theorem rebuiltBlk_emb (emb : S1024x768.Idx → S16384x768.Idx) (h : ∀ r k, emb (ix2 r k) = ix2 (place t r) k) (y : S1024x768.Idx) :
    rebuiltBlk m c t y = rebuiltArr m c (emb y) := by
  obtain ⟨r, k, rfl⟩ : ∃ r k, y = (ix2 r k : S1024x768.Idx) := ⟨y 0, y 1, funext fun a => by fin_cases a <;> rfl⟩
  rw [h, rebuiltBlk_at m c t r k]
  rfl

/-- The array of rebuilt rows after the kernel. -/
theorem arr10 : (dats m 0 c).arrAt 10 cfg0.N = rebuiltArr m c := by
  refine (dats m 0 c).arrAt_eq_of_covers 10 _ (by decide +kernel) fun t hf y => ?_
  blk_simp
  rw [after0_10, outs10]
  exact rebuiltBlk_emb m c t _ (emb10 t) y

/-- A point's indices are a block of the column's. -/
theorem index_emb (q : Fin 4) (emb : S1024.Idx → S16384.Idx) (h : ∀ r, emb (ix1 r) = ix1 (place t r)) (y : S1024.Idx) :
    kindex q (zblk m c t) (slab m c t q) y = indexArr m c q (emb y) := by
  obtain ⟨r, rfl⟩ : ∃ r, y = (ix1 r : S1024.Idx) := ⟨y 0, funext fun a => by fin_cases a; rfl⟩
  rw [h, index_at (zblk m c t) (slab m c t) q r, kcb_slab, krow_zblk]
  rfl

/-- Block `t` of index column 0. -/
theorem emb11 (r : Fin 1024) : (win0_11.blk t).view.emb (ix1 r) = (ix1 (place t r) : S16384.Idx) := by
  unfold place
  blk_ext! [idx11 t]

/-- Index column 0 after the kernel. -/
theorem arr11 : (dats m 0 c).arrAt 11 cfg0.N = indexArr m c 0 := by
  refine (dats m 0 c).arrAt_eq_of_covers 11 _ (by decide +kernel) fun t hf y => ?_
  blk_simp
  rw [after0_11, outs11]
  exact index_emb m c t 0 _ (emb11 t) y

/-- Block `t` of index column 1. -/
theorem emb12 (r : Fin 1024) : (win0_12.blk t).view.emb (ix1 r) = (ix1 (place t r) : S16384.Idx) := by
  unfold place
  blk_ext! [idx12 t]

/-- Index column 1 after the kernel. -/
theorem arr12 : (dats m 0 c).arrAt 12 cfg0.N = indexArr m c 1 := by
  refine (dats m 0 c).arrAt_eq_of_covers 12 _ (by decide +kernel) fun t hf y => ?_
  blk_simp
  rw [after0_12, outs12]
  exact index_emb m c t 1 _ (emb12 t) y

/-- Block `t` of index column 2. -/
theorem emb13 (r : Fin 1024) : (win0_13.blk t).view.emb (ix1 r) = (ix1 (place t r) : S16384.Idx) := by
  unfold place
  blk_ext! [idx13 t]

/-- Index column 2 after the kernel. -/
theorem arr13 : (dats m 0 c).arrAt 13 cfg0.N = indexArr m c 2 := by
  refine (dats m 0 c).arrAt_eq_of_covers 13 _ (by decide +kernel) fun t hf y => ?_
  blk_simp
  rw [after0_13, outs13]
  exact index_emb m c t 2 _ (emb13 t) y

/-- Block `t` of index column 3. -/
theorem emb14 (r : Fin 1024) : (win0_14.blk t).view.emb (ix1 r) = (ix1 (place t r) : S16384.Idx) := by
  unfold place
  blk_ext! [idx14 t]

/-- Index column 3 after the kernel. -/
theorem arr14 : (dats m 0 c).arrAt 14 cfg0.N = indexArr m c 3 := by
  refine (dats m 0 c).arrAt_eq_of_covers 14 _ (by decide +kernel) fun t hf y => ?_
  blk_simp
  rw [after0_14, outs14]
  exact index_emb m c t 3 _ (emb14 t) y

/-- The sum over all rows, of what the points add. -/
theorem sum_added : ∑ p : Fin cfg0.N, added m c p
    = ∑ q, ∑ r : Fin 16384, Spec.err (weights m c).cb ((weights m c).latent (input m c r)) q := by
  unfold added
  rw [Finset.sum_comm]
  exact Finset.sum_congr rfl fun q _ => Fin.sum_mul_add_congr (fun p r hl => rfl) (by decide +kernel)

/-- The last point. -/
def lastPoint : Fin cfg0.N := ⟨15, by decide +kernel⟩

/-- The loss after the kernel. -/
theorem arr15 (j : S1x1.Idx) : (dats m 0 c).arrAt 15 cfg0.N j
    = ∑ q, ∑ r : Fin 16384, Spec.err (weights m c).cb ((weights m c).latent (input m c r)) q := by
  have key := Pipeline.eq_sum_fin_of_reset_step_apply_last (N := cfg0.N) (ι := S1x1.Idx) (M := EReal)
    (fun n h => (outsAt0 m c n h).2.2.2.2.2) 16 (fun _ => 0) (fun p _ => added m c p)
    (fun t h i => outs15_first m c t h i) (fun t h i => outs15_next m c t h i) (by decide +kernel) lastPoint (by decide +kernel) j
  rw [zero_add, sum_added] at key
  rw [← key]
  refine congrFun ((dats m 0 c).arrAt_eq_of_after_last 15 lastPoint (by decide +kernel) _ fun j => ?_) j
  rw [after0_15]
  exact congrArg (fun i => (outsAt0 m c lastPoint.val lastPoint.isLt).2.2.2.2.2 i) (one_idx _ _)

end Cert.Proof.Krn

end
-- ==== Proof.KernelTail.lean ====
/-
  The kernel program's results: the host operations behind the kernel scale its loss and put its index columns side by side.
-/
module

public import proofs.«01_k».proof.Proof.KernelValue

@[expose] public section

set_option maxRecDepth 16384

noncomputable section

namespace Cert.Proof.Krn

open Cert.KernelIdeal Cert.KernelIdeal.Gen Idealize.ShloMosaic Idealize.ShloMosaic.TcCoe

variable (m : (ℓ : Loc nD τ sig) → Buf (Elt Ideal) ℓ) (c : Dev nD)

/-- The arrays as the kernel leaves them. -/
def left : Valuation τ sig (Elt Ideal) :=
  Pipeline.withArrays (cfgs 0).spec c (V0 m c) fun w => (dats m 0 c).arrAt w (cfgs 0).N

/-- The kernel's windows are different arrays. -/
theorem arrays_differ : Function.Injective (Pipeline.arrRef (cfgs 0).spec) := by decide +kernel

/-- Index column 0 the kernel leaves. -/
theorem left11 : (left m c (Proc.devRef .tc main_v4_1) : Vec Ideal S16384 .i32) = indexArr m c 0 :=
  (Pipeline.withArrays_arr (cfgs 0).spec arrays_differ c (V0 m c) _ 11).trans (arr11 m c)

/-- Index column 1 the kernel leaves. -/
theorem left12 : (left m c (Proc.devRef .tc main_v4_2) : Vec Ideal S16384 .i32) = indexArr m c 1 :=
  (Pipeline.withArrays_arr (cfgs 0).spec arrays_differ c (V0 m c) _ 12).trans (arr12 m c)

/-- Index column 2 the kernel leaves. -/
theorem left13 : (left m c (Proc.devRef .tc main_v4_3) : Vec Ideal S16384 .i32) = indexArr m c 2 :=
  (Pipeline.withArrays_arr (cfgs 0).spec arrays_differ c (V0 m c) _ 13).trans (arr13 m c)

/-- Index column 3 the kernel leaves. -/
theorem left14 : (left m c (Proc.devRef .tc main_v4_4) : Vec Ideal S16384 .i32) = indexArr m c 3 :=
  (Pipeline.withArrays_arr (cfgs 0).spec arrays_differ c (V0 m c) _ 14).trans (arr14 m c)

/-- The loss the kernel leaves. -/
theorem left15 : (left m c (Proc.devRef .tc main_v4_5) : Vec Ideal S1x1 .f32) = (dats m 0 c).arrAt 15 cfg0.N :=
  Pipeline.withArrays_arr (cfgs 0).spec arrays_differ c (V0 m c) _ 15

/-- The word of the scale. -/
theorem scale_eq : Ideal.ofBits FTy.f32 0x34A00000#32 = ((5 / 16777216 : ℝ) : EReal) := by
  simp [Ideal.ofBits, Ideal.ieee, -EReal.coe_mul]
  norm_num

/-- The program's second result: the kernel's loss, scaled. -/
theorem loss_value (j : S_.Idx) : (Pipeline.afterTail₀ cfgs (dats m) 0 (V0 m) [hostOps1] c main_v6 : Vec Ideal S_ .f32) j
    = (∑ q, ∑ r : Fin 16384, Spec.err (weights m c).cb ((weights m c).latent (input m c r)) q) * ((5 / 16777216 : ℝ) : EReal) := by
  show (StableHlo.after [hostOps1].flatten (left m c) (Proc.devRef .tc main_v6) : Vec Ideal S_ .f32) j = _
  simp only [List.flatten_cons, List.flatten_nil, List.append_nil]
  unfold hostOps1
  after_reads_simp
  refine congrArg₂ (fun a b : EReal => a * b) ?_ scale_eq
  refine (congrFun (left15 m c) _).trans (arr15 m c _)

/-- Four index columns side by side. -/
def kcolumns (i0 i1 i2 i3 : Vec Ideal S16384 .i32) : Vec Ideal S16384x4 .i32 :=
  concatenate S16384x4 1
    [⟨S16384x1, broadcastInDim S16384x1 ![0] bcast_S16384_S16384x1_0 i0⟩, ⟨S16384x1, broadcastInDim S16384x1 ![0] bcast_S16384_S16384x1_0 i1⟩,
      ⟨S16384x1, broadcastInDim S16384x1 ![0] bcast_S16384_S16384x1_0 i2⟩, ⟨S16384x1, broadcastInDim S16384x1 ![0] bcast_S16384_S16384x1_0 i3⟩]
    concatenates_S16384x1_S16384x1_S16384x1_S16384x1_S16384x4_d1

/-- Their reading. -/
theorem kcolumns_read (i0 i1 i2 i3 : Vec Ideal S16384 .i32) (r : Fin 16384) (q : Fin 4) :
    kcolumns i0 i1 i2 i3 (ix2 r q) = (![i0 (ix1 r), i1 (ix1 r), i2 (ix1 r), i3 (ix1 r)] : Fin 4 → BitVec 32) q := by
  pointwise [kcolumns]
  fin_cases q <;> rfl

/-- The program's third result: the kernel's index columns, side by side. -/
theorem index_value (r : Fin 16384) (q : Fin 4) :
    (Pipeline.afterTail₀ cfgs (dats m) 0 (V0 m) [hostOps1] c main_v11 : Vec Ideal S16384x4 .i32) (ix2 r q)
      = BitVec.ofNat 32 (Spec.near (weights m c).cb ((weights m c).latent (input m c r)) q).val := by
  have h : (Pipeline.afterTail₀ cfgs (dats m) 0 (V0 m) [hostOps1] c main_v11 : Vec Ideal S16384x4 .i32)
      = kcolumns (left m c (Proc.devRef .tc main_v4_1)) (left m c (Proc.devRef .tc main_v4_2)) (left m c (Proc.devRef .tc main_v4_3))
          (left m c (Proc.devRef .tc main_v4_4)) := by
    show StableHlo.after [hostOps1].flatten (left m c) (Proc.devRef .tc main_v11) = _
    simp only [List.flatten_cons, List.flatten_nil, List.append_nil]
    unfold hostOps1
    after_reads_simp
    rfl
  rw [h, left11, left12, left13, left14, kcolumns_read]
  fin_cases q <;> rfl

end Cert.Proof.Krn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefValue
public import proofs.«01_k».proof.Proof.KernelTail
public import Idealize.ShloMosaic.Adequacy
public import Idealize.ShloMosaic.Init

@[expose] public section

noncomputable section

namespace Cert.Proof

open Idealize.ShloMosaic Idealize.SL.Sem Cert.Kernel
open Idealize.ShloMosaic.StableHlo (launchContents)

/-- A memory of the kernel program. -/
abbrev KMem := (ℓ : Loc Cert.KernelIdeal.nD Cert.KernelIdeal.τ Cert.KernelIdeal.sig) → Buf (Elt Ideal) ℓ

/-- A memory of the reference. -/
abbrev RMem := (ℓ : Loc Cert.ReferenceIdeal.nD Cert.ReferenceIdeal.τ Cert.ReferenceIdeal.sig) → Buf (Elt Ideal) ℓ

/-- The two memories hold the same arguments on device `c`. -/
def Agree (m : KMem) (m' : RMem) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)

/-- What the reference holds on device `c` when it has run. -/
abbrev refEnd (m' : RMem) (c : Dev Cert.ReferenceIdeal.nD) : Valuation Cert.ReferenceIdeal.τ Cert.ReferenceIdeal.sig (Elt Ideal) :=
  StableHlo.after Ref.ops (launchContents m' c)

/-- What the kernel program holds on device `c` when it has run, outside the kernel's arrays. -/
abbrev krnEnd (m : KMem) (c : Dev Cert.KernelIdeal.nD) (b : Ref Cert.KernelIdeal.sig .tc) :=
  Pipeline.afterTail₀ Cert.KernelIdeal.cfgs (Cert.KernelIdeal.Gen.dats m) 0 (Cert.KernelIdeal.Gen.V0 m) [Cert.KernelIdeal.Gen.hostOps1] c b

variable (m : KMem) (m' : RMem) (c : Dev Cert.KernelIdeal.nD)

/-- Same arguments, same weights. -/
theorem weights_same (h : Agree m m' c) : Ref.weights (launchContents m' c) = Krn.weights m c := by
  obtain ⟨-, h1, h2, h3, h4, h5, h6, h7, h8, h9⟩ := h
  unfold Krn.weights
  simp only [← h1, ← h2, ← h3, ← h4, ← h5, ← h6, ← h7, ← h8, ← h9]
  rfl

/-- Same arguments, same input. -/
theorem input_same (h : Agree m m' c) (r : Fin 16384) : Ref.input (launchContents m' c) r = Krn.input m c r := by
  funext k
  unfold Krn.input
  rw [← h.1]
  rfl

/-- The two programs' rebuilt rows are the same. -/
theorem rebuilt_same (h : Agree m m' c) :
    (refEnd m' c (Proc.devRef .tc Cert.ReferenceIdeal.main_v154) : Vec Ideal Cert.KernelIdeal.S16384x768 .f32) = Krn.rebuiltArr m c := by
  funext i
  obtain ⟨r, k, rfl⟩ : ∃ r k, i = (ix2 r k : Cert.KernelIdeal.S16384x768.Idx) := ⟨i 0, i 1, funext fun a => by fin_cases a <;> rfl⟩
  refine (Ref.out_value (launchContents m' c) r k).trans ?_
  rw [weights_same m m' c h, input_same m m' c h]
  rfl

/-- The two programs' losses are the same. -/
theorem loss_same (h : Agree m m' c) :
    (refEnd m' c (Proc.devRef .tc Cert.ReferenceIdeal.main_v140) : Vec Ideal Cert.KernelIdeal.S_ .f32) = krnEnd m c Cert.KernelIdeal.main_v6 := by
  funext j
  refine (Ref.loss_value (launchContents m' c) j).trans ?_
  rw [Spec.mean_weigh, weights_same m m' c h]
  simp only [input_same m m' c h]
  exact (Krn.loss_value m c j).symm

/-- The two programs' indices are the same. -/
theorem index_same (h : Agree m m' c) :
    (refEnd m' c (Proc.devRef .tc Cert.ReferenceIdeal.main_v145) : Vec Ideal Cert.KernelIdeal.S16384x4 .i32) = krnEnd m c Cert.KernelIdeal.main_v11 := by
  funext i
  obtain ⟨r, q, rfl⟩ : ∃ r q, i = (ix2 r q : Cert.KernelIdeal.S16384x4.Idx) := ⟨i 0, i 1, funext fun a => by fin_cases a <;> rfl⟩
  refine (Ref.index_value (launchContents m' c) r q).trans ?_
  rw [weights_same m m' c h, input_same m m' c h]
  exact (Krn.index_value m c r q).symm

/-- The reference runs to the end and leaves its arguments and every counter as they were. -/
theorem reference_frame : Cert.quiescent_ReferenceIdeal := fun m ρ _ =>
  (θ_run _ _ _).mono (fun r h => ⟨fun c => ⟨(h c Cert.ReferenceIdeal.main_arg0).trans (Ref.arg_eq (launchContents m c) Cert.ReferenceIdeal.main_arg0 (by decide)),
    (h c Cert.ReferenceIdeal.main_arg1).trans (Ref.arg_eq (launchContents m c) Cert.ReferenceIdeal.main_arg1 (by decide)),
    (h c Cert.ReferenceIdeal.main_arg2).trans (Ref.arg_eq (launchContents m c) Cert.ReferenceIdeal.main_arg2 (by decide)),
    (h c Cert.ReferenceIdeal.main_arg3).trans (Ref.arg_eq (launchContents m c) Cert.ReferenceIdeal.main_arg3 (by decide)),
    (h c Cert.ReferenceIdeal.main_arg4).trans (Ref.arg_eq (launchContents m c) Cert.ReferenceIdeal.main_arg4 (by decide)),
    (h c Cert.ReferenceIdeal.main_arg5).trans (Ref.arg_eq (launchContents m c) Cert.ReferenceIdeal.main_arg5 (by decide)),
    (h c Cert.ReferenceIdeal.main_arg6).trans (Ref.arg_eq (launchContents m c) Cert.ReferenceIdeal.main_arg6 (by decide)),
    (h c Cert.ReferenceIdeal.main_arg7).trans (Ref.arg_eq (launchContents m c) Cert.ReferenceIdeal.main_arg7 (by decide)),
    (h c Cert.ReferenceIdeal.main_arg8).trans (Ref.arg_eq (launchContents m c) Cert.ReferenceIdeal.main_arg8 (by decide)),
    (h c Cert.ReferenceIdeal.main_arg9).trans (Ref.arg_eq (launchContents m c) Cert.ReferenceIdeal.main_arg9 (by decide))⟩, sem_eq_zero_of_no_sems (by decide) r.2⟩) (Ref.run_main m ρ)

/-- The kernel program and the reference compute the same results from the same arguments. -/
theorem same_results : Cert.algebraic_KernelIdeal_ReferenceIdeal := fun m ρ m' ρ' _ hag =>
  ⟨fun c => Krn.rebuiltArr m c, fun c => krnEnd m c Cert.KernelIdeal.main_v6, fun c => krnEnd m c Cert.KernelIdeal.main_v11,
    (θ_run _ _ _).mono (fun r h c =>
      ⟨((h.1 c).1 10).trans (Krn.arr10 m c),
        (h.1 c).2 Cert.KernelIdeal.main_v6 (Pipeline.mem_restRefs_of Cert.KernelIdeal.main_v6 (by decide) (by decide)),
        (h.1 c).2 Cert.KernelIdeal.main_v11 (Pipeline.mem_restRefs_of Cert.KernelIdeal.main_v11 (by decide) (by decide)), h.2 c⟩)
      (θ_run_and (Cert.KernelIdeal.Gen.run_main m ρ) (Cert.KernelIdeal.Gen.unchanged m ρ)),
    (θ_run _ _ _).mono (fun r h c =>
      ⟨(h c Cert.ReferenceIdeal.main_v154).trans (rebuilt_same m m' c (hag c)), (h c Cert.ReferenceIdeal.main_v140).trans (loss_same m m' c (hag c)),
        (h c Cert.ReferenceIdeal.main_v145).trans (index_same m m' c (hag c)), (h c Cert.ReferenceIdeal.main_arg0).trans (Ref.arg_eq (launchContents m' c) Cert.ReferenceIdeal.main_arg0 (by decide)),
        (h c Cert.ReferenceIdeal.main_arg1).trans (Ref.arg_eq (launchContents m' c) Cert.ReferenceIdeal.main_arg1 (by decide)),
        (h c Cert.ReferenceIdeal.main_arg2).trans (Ref.arg_eq (launchContents m' c) Cert.ReferenceIdeal.main_arg2 (by decide)),
        (h c Cert.ReferenceIdeal.main_arg3).trans (Ref.arg_eq (launchContents m' c) Cert.ReferenceIdeal.main_arg3 (by decide)),
        (h c Cert.ReferenceIdeal.main_arg4).trans (Ref.arg_eq (launchContents m' c) Cert.ReferenceIdeal.main_arg4 (by decide)),
        (h c Cert.ReferenceIdeal.main_arg5).trans (Ref.arg_eq (launchContents m' c) Cert.ReferenceIdeal.main_arg5 (by decide)),
        (h c Cert.ReferenceIdeal.main_arg6).trans (Ref.arg_eq (launchContents m' c) Cert.ReferenceIdeal.main_arg6 (by decide)),
        (h c Cert.ReferenceIdeal.main_arg7).trans (Ref.arg_eq (launchContents m' c) Cert.ReferenceIdeal.main_arg7 (by decide)),
        (h c Cert.ReferenceIdeal.main_arg8).trans (Ref.arg_eq (launchContents m' c) Cert.ReferenceIdeal.main_arg8 (by decide)),
        (h c Cert.ReferenceIdeal.main_arg9).trans (Ref.arg_eq (launchContents m' c) Cert.ReferenceIdeal.main_arg9 (by decide))⟩)
      (Ref.run_main m' ρ')⟩

/-- The claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, same_results⟩

end Cert.Proof

end
